-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S128x512 : Shape := ⟨2, ![128, 512]⟩
abbrev S3x128x512 : Shape := ⟨3, ![3, 128, 512]⟩
abbrev S1x512 : Shape := ⟨2, ![1, 512]⟩
abbrev S6 : Shape := ⟨1, ![6]⟩
abbrev S4 : Shape := ⟨1, ![4]⟩
abbrev S4x4 : Shape := ⟨2, ![4, 4]⟩
abbrev S2 : Shape := ⟨1, ![2]⟩
abbrev S1 : Shape := ⟨1, ![1]⟩
abbrev S_ : Shape := ⟨0, ![]⟩
abbrev S64x512 : Shape := ⟨2, ![64, 512]⟩
abbrev S1x64x512 : Shape := ⟨3, ![1, 64, 512]⟩
abbrev S1x128x512 : Shape := ⟨3, ![1, 128, 512]⟩
abbrev S1x1 : Shape := ⟨2, ![1, 1]⟩
abbrev S32x512 : Shape := ⟨2, ![32, 512]⟩
abbrev S32 : Shape := ⟨1, ![32]⟩
abbrev S32x1 : Shape := ⟨2, ![32, 1]⟩
abbrev S1x32x512 : Shape := ⟨3, ![1, 32, 512]⟩

abbrev nBuf : Space → Nat
  | .hbm => 4
  | .vmem => 10
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S128x512, .bf16⟩
  | .local _ .vmem, ⟨1, _⟩ => ⟨S128x512, .f32⟩
  | .local _ .vmem, ⟨2, _⟩ => ⟨S128x512, .f32⟩
  | .local _ .vmem, ⟨3, _⟩ => ⟨S128x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S3x128x512, .bf16⟩
  | .local _ .vmem, ⟨9, _⟩ => ⟨S1x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 3 42 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 2

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_10 : BitVec 32 := 0#32
  let c3_i32 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.xori v2 v8
  let v10 : BitVec 32 := Scalar.muli c2_i32_3 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 v8
  let v12 : BitVec 32 := Scalar.addi v10 v11
  let v17 : BitVec 32 := Scalar.subi c3_i32 v12
  let c128_i32_7 : BitVec 32 := 128#32
  let v18 : BitVec 32 := Scalar.muli v17 c128_i32_7
  let v19 : BitVec 32 := Scalar.addi v18 c0_i32
  let c0_i32_14 : BitVec 32 := 0#32
  ![0, v19.toNat, 0]
def k0_off2 (d0 : Dev nD) : Fin 3 → Nat :=
  let c0_i32_19 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.xori v2 v8
  let v10 : BitVec 32 := Scalar.muli c2_i32_3 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 v8
  let v12 : BitVec 32 := Scalar.addi v10 v11
  let c128_i32 : BitVec 32 := 128#32
  let v13 : BitVec 32 := Scalar.muli v12 c128_i32
  let c0_i32_21 : BitVec 32 := 0#32
  ![0, v13.toNat, 0]
def k0_off3 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.xori v2 v8
  let v10 : BitVec 32 := Scalar.muli c2_i32_3 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 v8
  let v12 : BitVec 32 := Scalar.addi v10 v11
  let c128_i32 : BitVec 32 := 128#32
  let v13 : BitVec 32 := Scalar.muli v12 c128_i32
  let c0_i32_23 : BitVec 32 := 0#32
  ![v13.toNat, 0]
def k0_dev1 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v45 : BitVec 32 := Scalar.muli v2 c4_i32_28
  let v46 : BitVec 32 := Scalar.addi c0_i32_29 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v47 : BitVec 32 := Scalar.muli v5 c2_i32_30
  let v48 : BitVec 32 := Scalar.addi v46 v47
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_31 : BitVec 32 := 1#32
  let v49 : BitVec 32 := Scalar.muli v14 c1_i32_31
  let v50 : BitVec 32 := Scalar.addi v48 v49
  v50.toNat
def k0_dev2 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_5 v2
  let c4_i32_34 : BitVec 32 := 4#32
  let v53 : BitVec 32 := Scalar.muli v15 c4_i32_34
  let v54 : BitVec 32 := Scalar.addi c0_i32_35 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v55 : BitVec 32 := Scalar.muli v5 c2_i32_36
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v57 : BitVec 32 := Scalar.muli v8 c1_i32_37
  let v58 : BitVec 32 := Scalar.addi v56 v57
  v58.toNat
def k0_dev3 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v61 : BitVec 32 := Scalar.muli v2 c4_i32_40
  let v62 : BitVec 32 := Scalar.addi c0_i32_41 v61
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_42 : BitVec 32 := 2#32
  let v63 : BitVec 32 := Scalar.muli v16 c2_i32_42
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v65 : BitVec 32 := Scalar.muli v8 c1_i32_43
  let v66 : BitVec 32 := Scalar.addi v64 v65
  v66.toNat
def k0_dev4 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v77 : BitVec 32 := Scalar.muli v2 c4_i32_57
  let v78 : BitVec 32 := Scalar.addi c0_i32_58 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v79 : BitVec 32 := Scalar.muli v5 c2_i32_59
  let v80 : BitVec 32 := Scalar.addi v78 v79
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_60 : BitVec 32 := 1#32
  let v81 : BitVec 32 := Scalar.muli v14 c1_i32_60
  let v82 : BitVec 32 := Scalar.addi v80 v81
  v82.toNat
def k0_dev5 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v89 : BitVec 32 := Scalar.muli v2 c4_i32_69
  let v90 : BitVec 32 := Scalar.addi c0_i32_70 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v91 : BitVec 32 := Scalar.muli v5 c2_i32_71
  let v92 : BitVec 32 := Scalar.addi v90 v91
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_72 : BitVec 32 := 1#32
  let v93 : BitVec 32 := Scalar.muli v14 c1_i32_72
  let v94 : BitVec 32 := Scalar.addi v92 v93
  v94.toNat
def k0_dev6 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v111 : BitVec 32 := Scalar.muli v2 c4_i32_88
  let v112 : BitVec 32 := Scalar.addi c0_i32_89 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v113 : BitVec 32 := Scalar.muli v5 c2_i32_90
  let v114 : BitVec 32 := Scalar.addi v112 v113
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_91 : BitVec 32 := 1#32
  let v115 : BitVec 32 := Scalar.muli v14 c1_i32_91
  let v116 : BitVec 32 := Scalar.addi v114 v115
  v116.toNat
def k0_dev7 (d0 : Dev nD) : Nat :=
  let c0_i32_101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_100 : BitVec 32 := 4#32
  let v123 : BitVec 32 := Scalar.muli v2 c4_i32_100
  let v124 : BitVec 32 := Scalar.addi c0_i32_101 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v125 : BitVec 32 := Scalar.muli v5 c2_i32_102
  let v126 : BitVec 32 := Scalar.addi v124 v125
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_103 : BitVec 32 := 1#32
  let v127 : BitVec 32 := Scalar.muli v14 c1_i32_103
  let v128 : BitVec 32 := Scalar.addi v126 v127
  v128.toNat
def k0_off4 (d0 : Dev nD) (c0_i32_151 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.xori v2 v8
  let v10 : BitVec 32 := Scalar.muli c2_i32_3 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 v8
  let v12 : BitVec 32 := Scalar.addi v10 v11
  let c128_i32 : BitVec 32 := 128#32
  let v13 : BitVec 32 := Scalar.muli v12 c128_i32
  let v190 : BitVec 32 := Scalar.addi v13 c0_i32_151
  let c0_i32_153 : BitVec 32 := 0#32
  ![v190.toNat, 0]
def k0_dev8 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v195 : BitVec 32 := Scalar.muli v2 c4_i32_161
  let v196 : BitVec 32 := Scalar.addi c0_i32_162 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_163 : BitVec 32 := 2#32
  let v197 : BitVec 32 := Scalar.muli v5 c2_i32_163
  let v198 : BitVec 32 := Scalar.addi v196 v197
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_164 : BitVec 32 := 1#32
  let v199 : BitVec 32 := Scalar.muli v14 c1_i32_164
  let v200 : BitVec 32 := Scalar.addi v198 v199
  v200.toNat
def k0_dev9 (d0 : Dev nD) : Nat :=
  let c0_i32_175 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_5 v2
  let c4_i32_174 : BitVec 32 := 4#32
  let v208 : BitVec 32 := Scalar.muli v15 c4_i32_174
  let v209 : BitVec 32 := Scalar.addi c0_i32_175 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v210 : BitVec 32 := Scalar.muli v5 c2_i32_176
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v212 : BitVec 32 := Scalar.muli v8 c1_i32_177
  let v213 : BitVec 32 := Scalar.addi v211 v212
  v213.toNat
def k0_dev10 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_187 : BitVec 32 := 4#32
  let v221 : BitVec 32 := Scalar.muli v2 c4_i32_187
  let v222 : BitVec 32 := Scalar.addi c0_i32_188 v221
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_189 : BitVec 32 := 2#32
  let v223 : BitVec 32 := Scalar.muli v16 c2_i32_189
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_190 : BitVec 32 := 1#32
  let v225 : BitVec 32 := Scalar.muli v8 c1_i32_190
  let v226 : BitVec 32 := Scalar.addi v224 v225
  v226.toNat
def k0_dev11 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v273 : BitVec 32 := Scalar.muli v2 c4_i32_229
  let v274 : BitVec 32 := Scalar.addi c0_i32_230 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v275 : BitVec 32 := Scalar.muli v5 c2_i32_231
  let v276 : BitVec 32 := Scalar.addi v274 v275
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_232 : BitVec 32 := 1#32
  let v277 : BitVec 32 := Scalar.muli v14 c1_i32_232
  let v278 : BitVec 32 := Scalar.addi v276 v277
  v278.toNat
def k0_dev12 (d0 : Dev nD) : Nat :=
  let c0_i32_243 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_5 v2
  let c4_i32_242 : BitVec 32 := 4#32
  let v286 : BitVec 32 := Scalar.muli v15 c4_i32_242
  let v287 : BitVec 32 := Scalar.addi c0_i32_243 v286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v288 : BitVec 32 := Scalar.muli v5 c2_i32_244
  let v289 : BitVec 32 := Scalar.addi v287 v288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v290 : BitVec 32 := Scalar.muli v8 c1_i32_245
  let v291 : BitVec 32 := Scalar.addi v289 v290
  v291.toNat
def k0_dev13 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v299 : BitVec 32 := Scalar.muli v2 c4_i32_255
  let v300 : BitVec 32 := Scalar.addi c0_i32_256 v299
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_257 : BitVec 32 := 2#32
  let v301 : BitVec 32 := Scalar.muli v16 c2_i32_257
  let v302 : BitVec 32 := Scalar.addi v300 v301
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v303 : BitVec 32 := Scalar.muli v8 c1_i32_258
  let v304 : BitVec 32 := Scalar.addi v302 v303
  v304.toNat
def k0_dev14 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v351 : BitVec 32 := Scalar.muli v2 c4_i32_298
  let v352 : BitVec 32 := Scalar.addi c0_i32_299 v351
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v353 : BitVec 32 := Scalar.muli v5 c2_i32_300
  let v354 : BitVec 32 := Scalar.addi v352 v353
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_301 : BitVec 32 := 1#32
  let v355 : BitVec 32 := Scalar.muli v14 c1_i32_301
  let v356 : BitVec 32 := Scalar.addi v354 v355
  v356.toNat
def k0_dev15 (d0 : Dev nD) : Nat :=
  let c0_i32_312 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_5 v2
  let c4_i32_311 : BitVec 32 := 4#32
  let v364 : BitVec 32 := Scalar.muli v15 c4_i32_311
  let v365 : BitVec 32 := Scalar.addi c0_i32_312 v364
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v366 : BitVec 32 := Scalar.muli v5 c2_i32_313
  let v367 : BitVec 32 := Scalar.addi v365 v366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v368 : BitVec 32 := Scalar.muli v8 c1_i32_314
  let v369 : BitVec 32 := Scalar.addi v367 v368
  v369.toNat
def k0_dev16 (d0 : Dev nD) : Nat :=
  let c0_i32_325 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_324 : BitVec 32 := 4#32
  let v377 : BitVec 32 := Scalar.muli v2 c4_i32_324
  let v378 : BitVec 32 := Scalar.addi c0_i32_325 v377
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_326 : BitVec 32 := 2#32
  let v379 : BitVec 32 := Scalar.muli v16 c2_i32_326
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_327 : BitVec 32 := 1#32
  let v381 : BitVec 32 := Scalar.muli v8 c1_i32_327
  let v382 : BitVec 32 := Scalar.addi v380 v381
  v382.toNat
def k0_dev17 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v429 : BitVec 32 := Scalar.muli v2 c4_i32_366
  let v430 : BitVec 32 := Scalar.addi c0_i32_367 v429
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_368 : BitVec 32 := 2#32
  let v431 : BitVec 32 := Scalar.muli v5 c2_i32_368
  let v432 : BitVec 32 := Scalar.addi v430 v431
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_4 v8
  let c1_i32_369 : BitVec 32 := 1#32
  let v433 : BitVec 32 := Scalar.muli v14 c1_i32_369
  let v434 : BitVec 32 := Scalar.addi v432 v433
  v434.toNat
def k0_dev18 (d0 : Dev nD) : Nat :=
  let c0_i32_380 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_5 v2
  let c4_i32_379 : BitVec 32 := 4#32
  let v442 : BitVec 32 := Scalar.muli v15 c4_i32_379
  let v443 : BitVec 32 := Scalar.addi c0_i32_380 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_381 : BitVec 32 := 2#32
  let v444 : BitVec 32 := Scalar.muli v5 c2_i32_381
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_382 : BitVec 32 := 1#32
  let v446 : BitVec 32 := Scalar.muli v8 c1_i32_382
  let v447 : BitVec 32 := Scalar.addi v445 v446
  v447.toNat
def k0_dev19 (d0 : Dev nD) : Nat :=
  let c0_i32_393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_392 : BitVec 32 := 4#32
  let v455 : BitVec 32 := Scalar.muli v2 c4_i32_392
  let v456 : BitVec 32 := Scalar.addi c0_i32_393 v455
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_6 v5
  let c2_i32_394 : BitVec 32 := 2#32
  let v457 : BitVec 32 := Scalar.muli v16 c2_i32_394
  let v458 : BitVec 32 := Scalar.addi v456 v457
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_395 : BitVec 32 := 1#32
  let v459 : BitVec 32 := Scalar.muli v8 c1_i32_395
  let v460 : BitVec 32 := Scalar.addi v458 v459
  v460.toNat
def k0_off5 (d0 : Dev nD) : Fin 2 → Nat :=
  let c3_i32_400 : BitVec 32 := 3#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.xori v2 v8
  let v10 : BitVec 32 := Scalar.muli c2_i32_3 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 v8
  let v12 : BitVec 32 := Scalar.addi v10 v11
  let v468 : BitVec 32 := Scalar.subi c3_i32_400 v12
  let c128_i32_464 : BitVec 32 := 128#32
  let v525 : BitVec 32 := Scalar.muli v468 c128_i32_464
  let c0_i32_466 : BitVec 32 := 0#32
  ![v525.toNat, 0]
def k0_off6 (d0 : Dev nD) (c2_i32_401 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.xori v2 v8
  let v10 : BitVec 32 := Scalar.muli c2_i32_3 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.xori v5 v8
  let v12 : BitVec 32 := Scalar.addi v10 v11
  let v469 : BitVec 32 := Scalar.xori v12 c2_i32_401
  let c128_i32_527 : BitVec 32 := 128#32
  let v583 : BitVec 32 := Scalar.muli v469 c128_i32_527
  let c0_i32_529 : BitVec 32 := 0#32
  ![v583.toNat, 0]
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Prot.lean ====
/-
The protocol of the kernel, written down before its run.

Eight devices, a 2 × 2 × 2 mesh; device `c` at `(x, y, z)` works on one quadrant of the rows. `pz`, `px`, `py` are its
neighbours along the three axes. It sends its partial rows (rounded to bf16) of its `z` neighbour's quadrant there, adds what it
receives, normalises, and sends the normalised rows (rounded) to all three neighbours.

Every remote copy has two cells, one on the sender (the source comes back) and one on the receiver (the destination comes back,
at contents named here); three more cells per device carry the neighbours' word that their landing buffers may be written.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Rounds
public import Idealize.ShloMosaic.Lib.StableHlo
public import Idealize.ShloMosaic.Lib.Tactic
public import Idealize.ShloMosaic.Lib.ViewIndex
public import Idealize.ShloMosaic.Lib.ValueLayout
public import Idealize.ShloMosaic.Lib.Pointwise.Index
public import Idealize.ShloMosaic.Lib.Ring.Trips

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

/-- The pipeline library's resources, the protocol's, and the counters of the local copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := (Emb.inl : Emb (UR sig nD τ) (UR sig nD τ × Counters)).trans embR
abbrev EC : UEmb Counters (MT nD τ sig Unit (Elt F) ℕ UU ℕ) := countersEmb

instance ER_landsIn : (ER (F := F)).LandsIn (upEmb : UEmb _ 𝕄) := by unfold ER embR; infer_instance
example : (EC (F := F)).LandsIn (upEmb : UEmb _ 𝕄) := inferInstance

abbrev 𝒱₀ : Variants := Variants.none

/-! ## The neighbours -/

/-- The neighbour across `z`. -/
def pz (c : Dev nD) : Dev nD := ⟨k0_dev1 c, k0_dev1_lt c⟩
/-- The neighbour across `x`. -/
def px (c : Dev nD) : Dev nD := ⟨k0_dev2 c, k0_dev2_lt c⟩
/-- The neighbour across `y`. -/
def py (c : Dev nD) : Dev nD := ⟨k0_dev3 c, k0_dev3_lt c⟩

theorem pz_pz (c : Dev nD) : pz (pz c) = c := by revert c; decide +kernel
theorem px_px (c : Dev nD) : px (px c) = c := by revert c; decide +kernel
theorem py_py (c : Dev nD) : py (py c) = c := by revert c; decide +kernel

/-- The neighbour a copy of family `si` goes to: 0 the partial rows, 1, 2, 3 the normalised rows across `z`, `x`, `y`. -/
def nb : Fin 4 → Dev nD → Dev nD
  | 0 => pz
  | 1 => pz
  | 2 => px
  | 3 => py

theorem nb_nb (si : Fin 4) (c : Dev nD) : nb si (nb si c) = c := by
  fin_cases si
  · exact pz_pz c
  · exact pz_pz c
  · exact px_px c
  · exact py_py c

/-- The neighbour as a permutation of the devices. -/
def nbE (si : Fin 4) : Dev nD ≃ Dev nD := ⟨nb si, nb si, nb_nb si, nb_nb si⟩

/-- The quadrant of the rows device `c` works on. -/
def quad (c : Dev nD) : ℕ := k0_off3 c 0 / 128
theorem quad_lt (c : Dev nD) : quad c < 4 := by revert c; decide +kernel

/-! ## The rectangles -/

theorem chk_inb (k : Fin 4) : ∀ a, (![32 * k.val, 0] : Fin 2 → ℕ) a + S32x512.size a ≤ S128x512.size a := by
  revert k; decide
/-- Chunk `k` of a quadrant: 32 rows. -/
abbrev chk (k : Fin 4) : Rect S128x512 := Rect.unit (s := S128x512) ![32 * k.val, 0] S32x512.size (chk_inb k)

theorem hlf_inb (h : Fin 2) : ∀ a, (![64 * h.val, 0] : Fin 2 → ℕ) a + S64x512.size a ≤ S128x512.size a := by
  revert h; decide
/-- Half `h` of a quadrant: 64 rows. -/
abbrev hlf (h : Fin 2) : Rect S128x512 := Rect.unit (s := S128x512) ![64 * h.val, 0] S64x512.size (hlf_inb h)

theorem rxc_inb (li : Fin 3) (k : Fin 4) : ∀ a, (![li.val, 32 * k.val, 0] : Fin 3 → ℕ) a + S1x32x512.size a ≤ S3x128x512.size a := by
  revert li k; decide
/-- Chunk `k` of plane `li` of the landing buffer of the normalised rows. -/
abbrev rxc (li : Fin 3) (k : Fin 4) : Rect S3x128x512 := Rect.unit (s := S3x128x512) ![li.val, 32 * k.val, 0] S1x32x512.size (rxc_inb li k)

theorem pln_inb (li : Fin 3) : ∀ a, (![li.val, 0, 0] : Fin 3 → ℕ) a + S1x128x512.size a ≤ S3x128x512.size a := by
  revert li; decide
/-- Plane `li`. -/
abbrev pln (li : Fin 3) : Rect S3x128x512 := Rect.unit (s := S3x128x512) ![li.val, 0, 0] S1x128x512.size (pln_inb li)

/-- The chunk of the rounded partial rows copy `k` of family 0 sends. -/
abbrev psM (k : Fin 4) : Memref sig .tc .vmem S32x512 .bf16 := (Memref.whole cc0_scratch3).slice (chk k) (fun _ => rfl)
/-- Where it lands. -/
abbrev cmM (k : Fin 4) : Memref sig .tc .vmem S32x512 .bf16 := (Memref.whole cc0_scratch0).slice (chk k) (fun _ => rfl)
/-- The chunk of the rounded normalised rows copies `k` of families 1, 2, 3 send. -/
abbrev nbM (k : Fin 4) : Memref sig .tc .vmem S32x512 .bf16 := (Memref.whole cc0_scratch7).slice (chk k) (fun _ => rfl)
/-- Where they land. -/
abbrev rxM (li : Fin 3) (k : Fin 4) : Memref sig .tc .vmem S32x512 .bf16 :=
  ((Memref.whole cc0_scratch8).slice (rxc li k) (fun _ => rfl)).squeeze S32x512 squeezes_S1x32x512_S32x512

/-- The credit of one remote copy. -/
abbrev N : ℕ := (cmM 0).view.dmaCredit
theorem N_pos : 0 < N := View.dmaCredit_pos _ (by decide)

/-! ## The semaphores -/

/-- The sender's semaphore of copy `k` of family `si`. -/
def snd (si k : Fin 4) : DmaSem sig := (⟨10 + 4 * si.val + k.val, by omega⟩ : Fin 42)
/-- The receiver's. -/
def rcv (si k : Fin 4) : DmaSem sig := (⟨26 + 4 * si.val + k.val, by omega⟩ : Fin 42)
/-- The barrier semaphore (neighbour across `z`), and the two ready semaphores (across `x`, `y`). -/
def rdy : Fin 3 → Sem sig
  | 0 => (2 : Fin 3)
  | 1 => (0 : Fin 3)
  | 2 => (1 : Fin 3)

abbrev sndC (si k : Fin 4) (c : Dev nD) : GSem nD τ sig := ((c : Thread nD τ), .dma (snd si k))
abbrev rcvC (si k : Fin 4) (c : Dev nD) : GSem nD τ sig := ((c : Thread nD τ), .dma (rcv si k))
abbrev rdyC (j : Fin 3) (c : Dev nD) : GSem nD τ sig := ((c : Thread nD τ), .reg (rdy j))

/-! ## Contents -/

variable (m : (ℓ : Loc nD τ sig) → Buf (Elt F) ℓ)

abbrev f32Q (F : FTy → Type) : Type := S128x512.Idx → Elt F .f32
abbrev b16Q (F : FTy → Type) : Type := S128x512.Idx → Elt F .bf16

/-- Row `128 q + i` of the partial sums device `c` was given, at column `j`. -/
def pAt (c : Dev nD) (q : ℕ) (hq : q < 4) (i : S128x512.Idx) : Elt F .f32 :=
  (V m c main_arg0 : S1x512x512.Idx → Elt F .f32)
    (ix3 (⟨0, Nat.one_pos⟩ : Fin 1) (⟨128 * q + (i 0).val, by have h : (i 0).val < 128 := (i 0).isLt; omega⟩ : Fin 512) (i 1))

/-- The rows of the `z` neighbour's quadrant. -/
def psW (c : Dev nD) : f32Q F := pAt m c (3 - quad c) (by have := quad_lt c; omega)
/-- The same rounded: what is sent. -/
def psbW (c : Dev nD) : b16Q F := fun i => truncf .bf16 (psW m c) bitsLt_bf16_f32 i
/-- What lands: the `z` neighbour's partial rows of the own quadrant. -/
def cmW (c : Dev nD) : b16Q F := psbW m (pz c)
/-- The own partial rows of the own quadrant. -/
def pmW (c : Dev nD) : f32Q F := pAt m c (quad c) (quad_lt c)
/-- The residual's rows of the own quadrant. -/
def rqW (c : Dev nD) : f32Q F := fun i =>
  (V m c main_arg1 : S512x512.Idx → Elt F .f32)
    (ix2 (⟨128 * quad c + (i 0).val, by have h : (i 0).val < 128 := (i 0).isLt; have := quad_lt c; omega⟩ : Fin 512) (i 1))
/-- Their sum. -/
def acW (c : Dev nD) : f32Q F := addf (pmW m c) (rqW m c)
/-- The scale. -/
def gvW (c : Dev nD) : S1x512.Idx → Elt F .f32 := fun i => (V m c main_arg2 : S512.Idx → Elt F .f32) (ix1 (i 1))

/-- Which chunk row `i` is in, and its place there. -/
def ckOf (i : S128x512.Idx) : Fin 4 := ⟨(i 0).val / 32, by have h : (i 0).val < 128 := (i 0).isLt; omega⟩
def inCk (i : S128x512.Idx) : S32x512.Idx := ix2 (⟨(i 0).val % 32, by omega⟩ : Fin 32) (i 1)

/-- Chunk `k` of a quadrant's contents. -/
def ckRead {e : EltTy} (f : S128x512.Idx → Elt F e) (k : Fin 4) : Vec F S32x512 e := fun x => f ((chk k).emb x)

/-- The normalised rows of the own quadrant. -/
def nfW (c : Dev nD) : f32Q F := fun i =>
  k0_pay11 (ckRead (acW m c) (ckOf i)) (ckRead (cmW m c) (ckOf i)) (gvW m c) (inCk i)
/-- The same rounded: what is sent to the neighbours. -/
def nbW (c : Dev nD) : b16Q F := fun i => truncf .bf16 (nfW m c) bitsLt_bf16_f32 i
/-- What lands of the three neighbours' normalised rows. -/
def rxW (c : Dev nD) : S3x128x512.Idx → Elt F .bf16 := fun i => nbW m (nb (Fin.succ (i 0)) c) (ix2 (i 1) (i 2))
/-- The same widened, one plane: what is copied to the result. -/
def wdW (li : Fin 3) (c : Dev nD) : f32Q F := fun i => extf .f32 (nbW m (nb li.succ c)) bitsLt_bf16_f32 i

/-- The result: the own quadrant's normalised rows as computed here, the neighbours' as they came, widened. -/
def outW (c : Dev nD) : S512x512.Idx → Elt F .f32 := fun i =>
  if (i 0).val / 128 = quad c then nfW m c (ix2 (⟨(i 0).val % 128, Nat.mod_lt _ (by decide)⟩ : Fin 128) (i 1))
  else if (i 0).val / 128 = 3 - quad c then wdW m 0 c (ix2 (⟨(i 0).val % 128, Nat.mod_lt _ (by decide)⟩ : Fin 128) (i 1))
  else if (i 0).val / 128 = quad (px c) then wdW m 1 c (ix2 (⟨(i 0).val % 128, Nat.mod_lt _ (by decide)⟩ : Fin 128) (i 1))
  else wdW m 2 c (ix2 (⟨(i 0).val % 128, Nat.mod_lt _ (by decide)⟩ : Fin 128) (i 1))

/-! ## Points-tos -/

abbrev pt (c : Dev nD) (b : Ref sig .tc) (f : b.ty.Contents (Elt F)) : sProp 𝕄 := ((c : Thread nD τ).loc b) ↦{fullShare} f

/-- The elements under a memref, at contents `f` of its buffer. -/
abbrev at_ {sp : Space} {s : Shape} {e : EltTy} (M : Memref sig .tc sp s e) (c : Dev nD) (q : PosShare TreeShare) (f : M.view.ty.Contents (Elt F)) : sProp 𝕄 :=
  M.view.loc (c : Thread nD τ) ↦[M.view.set]{q} f

/-! ## The schedule -/

/-- The share a copy of family `si` borrows of its source. -/
def shr : Fin 4 → PosShare TreeShare
  | 0 => fullShare
  | 1 => shares3 fullShare 0
  | 2 => shares3 fullShare 1
  | 3 => shares3 fullShare 2

/-- What a sender's cell gives back: the source. -/
def sndPay (si k : Fin 4) (c : Dev nD) : sProp 𝕄 :=
  match si with
  | 0 => at_ (psM k) c (shr 0) (psbW m c)
  | 1 => at_ (nbM k) c (shr 1) (nbW m c)
  | 2 => at_ (nbM k) c (shr 2) (nbW m c)
  | 3 => at_ (nbM k) c (shr 3) (nbW m c)

/-- What a receiver's cell gives: the landing chunk at the named contents. -/
def rcvPay (si k : Fin 4) (c : Dev nD) : sProp 𝕄 :=
  match si with
  | 0 => at_ (cmM k) c fullShare (cmW m c)
  | 1 => at_ (rxM 0 k) c fullShare (rxW m c)
  | 2 => at_ (rxM 1 k) c fullShare (rxW m c)
  | 3 => at_ (rxM 2 k) c fullShare (rxW m c)

/-- One landing chunk of device `c`, at contents not chosen, beside the record that its receiving cell is open. -/
def slot {s : Shape} {e : EltTy} (M : Memref sig .tc .vmem s e) (si k : Fin 4) (c : Dev nD) : sProp 𝕄 :=
  iprop((∃ f, at_ M c fullShare f) ∗ reached ER (rcvC si k c) 0)

/-- The four chunks of the partial rows' landing buffer. -/
def slots0 (c : Dev nD) : sProp 𝕄 := iprop(slot (cmM 0) 0 0 c ∗ slot (cmM 1) 0 1 c ∗ slot (cmM 2) 0 2 c ∗ slot (cmM 3) 0 3 c)
/-- The four chunks of one plane of the normalised rows' landing buffer. -/
def slotsR (li : Fin 3) (c : Dev nD) : sProp 𝕄 :=
  iprop(slot (rxM li 0) li.succ 0 c ∗ slot (rxM li 1) li.succ 1 c ∗ slot (rxM li 2) li.succ 2 c ∗ slot (rxM li 3) li.succ 3 c)

/-- What a neighbour's word hands over: its landing chunks. -/
def rdyPay (j : Fin 3) (c : Dev nD) : sProp 𝕄 :=
  match j with
  | 0 => iprop(slots0 (pz c) ∗ slotsR 0 (pz c))
  | 1 => slotsR 1 (px c)
  | 2 => slotsR 2 (py c)

instance slot_storable {s : Shape} {e : EltTy} (M : Memref sig .tc .vmem s e) (si k : Fin 4) (c : Dev nD) :
    BI.Storable (upEmb : UEmb _ 𝕄) (slot (F := F) M si k c) := by unfold slot; infer_instance
instance slots0_storable (c : Dev nD) : BI.Storable (upEmb : UEmb _ 𝕄) (slots0 (F := F) c) := by unfold slots0; infer_instance
instance slotsR_storable (li : Fin 3) (c : Dev nD) : BI.Storable (upEmb : UEmb _ 𝕄) (slotsR (F := F) li c) := by unfold slotsR; infer_instance
instance rdyPay_storable (j : Fin 3) (c : Dev nD) : BI.Storable (upEmb : UEmb _ 𝕄) (rdyPay (F := F) j c) := by
  fin_cases j <;> (unfold rdyPay; infer_instance)
instance sndPay_storable (si k : Fin 4) (c : Dev nD) : BI.Storable (upEmb : UEmb _ 𝕄) (sndPay m si k c) := by
  fin_cases si <;> (unfold sndPay; infer_instance)
instance rcvPay_storable (si k : Fin 4) (c : Dev nD) : BI.Storable (upEmb : UEmb _ 𝕄) (rcvPay m si k c) := by
  fin_cases si <;> (unfold rcvPay; infer_instance)

/-- Which copy a DMA semaphore number is about. -/
def siOf (n : ℕ) : Fin 4 := ⟨(n - 10) / 4 % 4, Nat.mod_lt _ (by decide)⟩
def kOf (n : ℕ) : Fin 4 := ⟨(n - 10) % 4, Nat.mod_lt _ (by decide)⟩
def jOf (s : Sem sig) : Fin 3 := match (s : Fin 3) with | 0 => 1 | 1 => 2 | 2 => 0

/-- The semaphores of the protocol. -/
def isCell : SemLoc sig → Bool
  | .reg _ => true
  | .dma s => decide (10 ≤ (s : Fin 42).val)

def payOf (sm : SemLoc sig) (c : Dev nD) : sProp 𝕄 :=
  match sm with
  | .reg s => rdyPay (jOf s) c
  | .dma s => if (s : Fin 42).val < 26 then sndPay m (siOf (s : Fin 42).val) (kOf (s : Fin 42).val) c else rcvPay m (siOf (s : Fin 42).val) (kOf (s : Fin 42).val) c

def amtOf : SemLoc sig → ℕ
  | .reg _ => 1
  | .dma _ => N

/-- One round on every cell, one duty a round. -/
def Rd : Rounds.Schedule (GSem nD τ sig) Unit 𝕄 where
  duties g r := if r = 0 ∧ g.1.2 = .tc ∧ isCell g.2 = true then {()} else ∅
  unitless _ := False
  amount g _ _ := amtOf g.2
  payload g _ _ := payOf m g.2 g.1.1
  amount_pos g _ _ _ := by
    unfold amtOf; split
    · exact Nat.one_pos
    · exact N_pos

instance Rd_payload_storable (g : GSem nD τ sig) (r : ℕ) (d : Unit) : BI.Storable (upEmb : UEmb _ 𝕄) ((Rd m).payload g r d) := by
  show BI.Storable upEmb (payOf m g.2 g.1.1)
  unfold payOf
  split
  · infer_instance
  · split <;> infer_instance

section Sched

theorem isCell_snd (si k : Fin 4) : isCell (.dma (snd si k)) = true := by revert si k; decide
theorem isCell_rcv (si k : Fin 4) : isCell (.dma (rcv si k)) = true := by revert si k; decide
theorem isCell_rdy (j : Fin 3) : isCell (.reg (rdy j)) = true := rfl

theorem siOf_snd (si k : Fin 4) : siOf (snd si k : Fin 42).val = si := by revert si k; decide
theorem kOf_snd (si k : Fin 4) : kOf (snd si k : Fin 42).val = k := by revert si k; decide
theorem snd_lt (si k : Fin 4) : (snd si k : Fin 42).val < 26 := by revert si k; decide
theorem siOf_rcv (si k : Fin 4) : siOf (rcv si k : Fin 42).val = si := by revert si k; decide
theorem kOf_rcv (si k : Fin 4) : kOf (rcv si k : Fin 42).val = k := by revert si k; decide
theorem rcv_ge (si k : Fin 4) : ¬ (rcv si k : Fin 42).val < 26 := by revert si k; decide
theorem jOf_rdy (j : Fin 3) : jOf (rdy j) = j := by revert j; decide

theorem payOf_snd (si k : Fin 4) (c : Dev nD) : payOf m (.dma (snd si k)) c = sndPay m si k c := by
  show (if (snd si k : Fin 42).val < 26 then sndPay m (siOf (snd si k : Fin 42).val) (kOf (snd si k : Fin 42).val) c
    else rcvPay m (siOf (snd si k : Fin 42).val) (kOf (snd si k : Fin 42).val) c) = _
  rw [if_pos (snd_lt si k), siOf_snd, kOf_snd]
theorem payOf_rcv (si k : Fin 4) (c : Dev nD) : payOf m (.dma (rcv si k)) c = rcvPay m si k c := by
  show (if (rcv si k : Fin 42).val < 26 then sndPay m (siOf (rcv si k : Fin 42).val) (kOf (rcv si k : Fin 42).val) c
    else rcvPay m (siOf (rcv si k : Fin 42).val) (kOf (rcv si k : Fin 42).val) c) = _
  rw [if_neg (rcv_ge si k), siOf_rcv, kOf_rcv]
theorem payOf_rdy (j : Fin 3) (c : Dev nD) : payOf m (.reg (rdy j)) c = rdyPay (F := F) j c := by
  show rdyPay (jOf (rdy j)) c = _
  rw [jOf_rdy]

theorem duties_cell (c : Dev nD) {sm : SemLoc sig} (h : isCell sm = true) : (Rd m).duties ((c : Thread nD τ), sm) 0 = {()} :=
  if_pos ⟨rfl, rfl, h⟩
theorem duties_later (g : GSem nD τ sig) : ∀ r, 1 ≤ r → (Rd m).duties g r = ∅ :=
  fun r hr => if_neg fun h => by omega
theorem expect_cell (c : Dev nD) {sm : SemLoc sig} (h : isCell sm = true) : (Rd m).expect ((c : Thread nD τ), sm) 0 = amtOf sm := by
  unfold Schedule.expect Schedule.amountOf; rw [duties_cell m c h, Finset.sum_singleton]; rfl
theorem rest_cell (c : Dev nD) {sm : SemLoc sig} (h : isCell sm = true) :
    bigSep ((Rd m).duties ((c : Thread nD τ), sm) 0 \ ∅) (fun u => (Rd m).payload ((c : Thread nD τ), sm) 0 u) = payOf m sm c := by
  rw [Finset.sdiff_empty, duties_cell m c h, bigSep_singleton]; rfl

end Sched

/-! ## Levels, and what a device owes -/

def L (g : GSem nD τ sig) : Finset Unit := if g.1.2 = .tc then {()} else ∅

/-- The neighbours' words at 1, the partial rows' arrivals at 2, the normalised rows' at 3, everything else at 0. -/
def lvS : SemLoc sig → ℕ
  | .reg _ => 1
  | .dma s => if (s : Fin 42).val < 26 then 0 else if (s : Fin 42).val < 30 then 2 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- What a device owes, as the list of its payments still to come, the next one at the head. -/
def owedL : List (GSem nD τ sig) → CellTallies nD τ sig Unit
  | [] => 0
  | g :: l => owedL l + tallyAt g () (amtOf g.2)

theorem owedL_cons (g : GSem nD τ sig) (l : List (GSem nD τ sig)) : owedL (g :: l) = owedL l + tallyAt g () (amtOf g.2) := rfl

theorem owedL_pos {l : List (GSem nD τ sig)} {g : GSem nD τ sig} {u : Unit} (h : 0 < owedL l g u) : g ∈ l := by
  induction l with
  | nil => exact absurd h (Nat.lt_irrefl 0)
  | cons g' l ih =>
    rw [owedL_cons, Pi.add_apply, Finsupp.add_apply] at h
    rcases Nat.add_pos_iff_pos_or_pos.mp h with h | h
    · exact List.mem_cons_of_mem _ (ih h)
    · rw [tallyAt_apply] at h
      split at h
      · next hg => rw [hg.1]; exact List.mem_cons_self
      · exact absurd h (Nat.lt_irrefl 0)

/-- All of the payments, in the order of the program. -/
def debts (c : Dev nD) : List (GSem nD τ sig) :=
  [rdyC 0 (pz c), rdyC 1 (px c), rdyC 2 (py c),
   rcvC 0 0 (pz c), rcvC 0 1 (pz c), rcvC 0 2 (pz c), rcvC 0 3 (pz c),
   rcvC 1 0 (pz c), rcvC 2 0 (px c), rcvC 3 0 (py c),
   rcvC 1 1 (pz c), rcvC 2 1 (px c), rcvC 3 1 (py c),
   rcvC 1 2 (pz c), rcvC 2 2 (px c), rcvC 3 2 (py c),
   rcvC 1 3 (pz c), rcvC 2 3 (px c), rcvC 3 3 (py c)]
/-- Those left after the first `n`. -/
def owe (c : Dev nD) (n : ℕ) : CellTallies nD τ sig Unit := owedL ((debts c).drop n)

theorem owe_all (c : Dev nD) : owe c 19 = 0 := rfl

/-- Every payment left lies above level `w`. -/
def above (c : Dev nD) (n w : ℕ) : Bool := ((debts c).drop n).all fun g => decide (w < lvS g.2) && decide (g.1.2 = .tc)

theorem mayWait_of_above (c : Dev nD) (n w : ℕ) (sm : SemLoc sig) (hs : lvS sm ≤ w) (h : above c n w = true) :
    (levAts L lv : sProp 𝕄) ⊢ MayWait (c : Thread nD τ) sm () (owe c n) := by
  have key : ∀ g ∈ (debts c).drop n, w < lvS g.2 ∧ g.1.2 = .tc := fun g hg => by
    have := List.all_eq_true.mp h g hg
    simpa using this
  exact MayOwe.of_cut (L := L) (lev := lv) w
    (fun p hp => by rw [Finset.mem_singleton.mp hp, L_tc]; exact Finset.mem_singleton_self _)
    (fun g u hg => by
      have := (key g (owedL_pos hg)).2
      unfold L; rw [if_pos this]; exact Finset.mem_singleton_self _)
    (fun p hp => by rw [Finset.mem_singleton.mp hp]; exact hs)
    (fun g u hg => (key g (owedL_pos hg)).1)

theorem above_loc (c : Dev nD) (n : ℕ) (hn : n ≤ 19) : above c n 0 = true := by
  revert hn; revert c n; decide +kernel
theorem above_one (c : Dev nD) : above c 3 1 = true := by revert c; decide +kernel
theorem above_two (c : Dev nD) (n : ℕ) (h : 7 ≤ n) (hn : n ≤ 19) : above c n 2 = true := by
  have : ∀ c : Dev nD, ∀ n : Fin 20, 7 ≤ n.val → above c n.val 2 = true := by decide +kernel
  exact this c ⟨n, by omega⟩ h

end Cert.KernelIdeal.NormRun

end
-- ==== Proof.Steps.lean ====
/-
The steps a device's run is made of: a word to a neighbour, a copy to a neighbour, a copy within the device, the waits for them,
loads and stores. Each is the library's rule at this protocol, the contents after it named.
-/
module

public import proofs.«01_k».proof.Proof.Prot

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-! ## The cells, numbered -/

/-- The protocol's semaphores: the senders', the receivers', and the three of the neighbours' words. -/
def cellS (i : Fin 35) : SemLoc sig :=
  if h : i.val < 32 then .dma (⟨10 + i.val, by omega⟩ : Fin 42)
  else if i.val = 32 then .reg (0 : Fin 3) else if i.val = 33 then .reg (1 : Fin 3) else .reg (2 : Fin 3)

def iS (si k : Fin 4) : Fin 35 := ⟨4 * si.val + k.val, by omega⟩
def iR (si k : Fin 4) : Fin 35 := ⟨16 + 4 * si.val + k.val, by omega⟩
def iY : Fin 3 → Fin 35
  | 0 => 34
  | 1 => 32
  | 2 => 33

theorem cellS_iS (si k : Fin 4) : cellS (iS si k) = .dma (snd si k) := by revert si k; decide
theorem cellS_iR (si k : Fin 4) : cellS (iR si k) = .dma (rcv si k) := by revert si k; decide
theorem cellS_iY (j : Fin 3) : cellS (iY j) = .reg (rdy j) := by revert j; decide
theorem isCell_cellS (i : Fin 35) : isCell (cellS i) = true := by revert i; decide

/-- Cell `i` of device `c`. -/
def kcell (ck : Dev nD × Fin 35) : GSem nD τ sig := ((ck.1 : Thread nD τ), cellS ck.2)

variable (m : (ℓ : Loc nD τ sig) → Buf (Elt F) ℓ) (K : Dev nD × Fin 35 → ℕ)

/-- What every device knows: the cells' invariants, that each is open, and the levels. -/
def recs : sProp 𝕄 :=
  iprop((bigSep Finset.univ fun ck : Dev nD × Fin 35 => cellInv ER (Rd m) (K ck) (kcell ck))
    ∗ (bigSep Finset.univ fun ck : Dev nD × Fin 35 => reached ER (kcell ck) 0) ∗ levAts L lv)

instance recs_persistent : Persistent (recs m K) := by unfold recs; infer_instance

theorem recs_lev : recs m K ⊢ levAts L lv := by
  unfold recs; iintro ⟨-, -, H⟩; iexact H
theorem recs_inv (c : Dev nD) (i : Fin 35) (sm : SemLoc sig) (h : cellS i = sm) :
    recs m K ⊢ cellInv ER (Rd m) (K (c, i)) ((c : Thread nD τ), sm) := by
  subst h; unfold recs; iintro ⟨H, -, -⟩
  ihave H := (Rounds.bigSep_pick (Φ := fun ck : Dev nD × Fin 35 => cellInv ER (Rd m) (K ck) (kcell ck)) (Finset.mem_univ (c, i))) $$ H
  icases H with ⟨H, -⟩
  iexact H
theorem recs_reached (c : Dev nD) (i : Fin 35) (sm : SemLoc sig) (h : cellS i = sm) :
    recs m K ⊢ reached ER ((c : Thread nD τ), sm) 0 := by
  subst h; unfold recs; iintro ⟨-, H, -⟩
  ihave H := (Rounds.bigSep_pick (Φ := fun ck : Dev nD × Fin 35 => (reached ER (kcell ck) 0 : sProp 𝕄)) (Finset.mem_univ (c, i))) $$ H
  icases H with ⟨H, -⟩
  iexact H

theorem Rd_payload (c : Dev nD) (sm : SemLoc sig) : (Rd m).payload ((c : Thread nD τ), sm) 0 () = payOf m sm c := rfl
theorem Rd_amount (c : Dev nD) (sm : SemLoc sig) : (Rd m).amount ((c : Thread nD τ), sm) 0 () = amtOf sm := rfl

/-! ## The steps -/

abbrev Wp {α : Type} (c : Dev nD) (prog : Prog (TpuEff nD τ sig (Elt F) Λ₀ .tc) α) (Q : α → sProp 𝕄) : sProp 𝕄 :=
  wp frame (wpE (defs₀ (F := F)) 𝒱₀ (c : Thread nD τ) none) Set.univ prog Q

/-- What a device owes after its first `n` payments. -/
def ow (c : Dev nD) (n : ℕ) : sProp 𝕄 := iprop(∃ W, owes (c : Thread nD τ) (owe c n) W)

variable {α : Type} {Q : α → sProp (MT nD τ sig Unit (Elt F) ℕ UU ℕ)} {k : PUnit → Prog (TpuEff nD τ sig (Elt F) Λ₀ .tc) α}

/-- A word to the neighbour: it may write what the payload hands it. -/
theorem st_signal (c : Dev nD) (j : Fin 3) (n : ℕ) (hO : owe c n = owe c (n + 1) + tallyAt (rdyC j (nb j.succ c)) () 1) :
    iprop(recs m K ∗ ow c n ∗ dutyTok ER (rdyC j (nb j.succ c)) 0 () ∗ rdyPay j (nb j.succ c))
      ⊢ iprop((ow c (n + 1) -∗ Wp c (k ⟨⟩) Q) -∗ Wp c (.op (.semSignal (nb j.succ c : Thread nD τ) (rdy j) 1) k) Q) := by
  unfold ow
  iintro ⟨#HR, ⟨%W, HO⟩, HT, HP⟩ Hk
  iapply (Rounds.wp_signal 𝒱₀ ER (Rd m) (c : Thread nD τ) none (dst := (nb j.succ c : Thread nD τ)) (sem := rdy j) (r := 0) (d := ()) (κ := K (nb j.succ c, iY j))
      (by rw [duties_cell m _ (isCell_rdy j)]; exact Finset.mem_singleton_self _) (Rd_amount m _ _) () (owe c (n + 1)) hO) $$ [HO HT HP]
  · isplitr; · iapply (recs_inv m K (nb j.succ c) (iY j) _ (cellS_iY j)) $$ HR
    isplitl [HO]; · iexact HO
    isplitl [HT]; · iexact HT
    isplitl [HP]
    · iapply (Entails.of_eq ((Rd_payload m (nb j.succ c) (.reg (rdy j))).trans (payOf_rdy m j (nb j.succ c))).symm) $$ HP
    iapply (recs_reached m K (nb j.succ c) (iY j) _ (cellS_iY j)) $$ HR
  iintro HO
  iapply Hk
  iexists W; iexact HO

/-- Contents written over a view are the ones it reads back, over its elements. -/
theorem write_agree {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  obtain ⟨x, -, rfl⟩ := Finset.mem_map.mp hi
  rw [View.write_emb_of_mem (v := v) (f := f) (w := w) (h := Finset.mem_univ x), ← h, View.read_apply, cast_cast, cast_eq]

/-- A copy to a neighbour. -/
theorem st_send (c : Dev nD) (si kk : Fin 4) (n : ℕ) (c' : Dev nD) (hc : c' = nb si c)
    {src dst : Memref sig .tc .vmem S32x512 .bf16} (fs : src.view.ty.Contents (Elt F)) (g : dst.view.ty.Contents (Elt F)) (q : PosShare TreeShare)
    (hg : dst.view.read (Elt F) g = src.view.read (Elt F) fs)
    (hO : owe c n = owe c (n + 1) + tallyAt (rcvC si kk (nb si c)) () N)
    (hp₁ : at_ src c q fs = sndPay m si kk c) (hp₂ : at_ dst (nb si c) fullShare g = rcvPay m si kk (nb si c))
    (hN : dst.view.dmaCredit = N)
    {hsc : dst.view.ref.isScScratch = false} {hsrc : src.view.WordExact} {hdst : dst.view.WordExact}
    {hsem : DmaTarget.Typed (nD := nD) (τ := τ) (sig := sig) Space.vmem (.dma (rcv si kk)) (.remote (Dev.tc c') dst (.dma (snd si kk)) hsc)} :
    iprop(recs m K ∗ at_ src c q fs ∗ slot dst si kk (nb si c) ∗ ow c n ∗ dutyTok ER (sndC si kk c) 0 () ∗ dutyTok ER (rcvC si kk (nb si c)) 0 ())
      ⊢ iprop((cred (tallyAt (sndC si kk c) () N) ∗ ow c (n + 1) -∗ Wp c (k ⟨⟩) Q)
          -∗ Wp c (.op (.enqueueDma src (.remote (Dev.tc c') dst (.dma (snd si kk)) hsc) (.dma (rcv si kk)) hsrc hdst hsem) k) Q) := by
  subst hc
  unfold ow slot
  iintro ⟨#HR, HS, ⟨⟨%fd, HD⟩, #Hr⟩, ⟨%W, HO⟩, HT₁, HT₂⟩ Hk
  iapply (Rounds.wp_send_pointsTo 𝒱₀ ER (Rd m) (c : Thread nD τ) none (src := src) (dst := dst) (c' := (nb si c : Thread nD τ)) (sS := .dma (snd si kk)) (sem := .dma (rcv si kk)) (κ₁ := K (c, iS si kk)) (κ₂ := K (nb si c, iR si kk)) (r₁ := 0) (r₂ := 0) (d₁ := ()) (d₂ := ())
      (q := q) (fs := fs) (fd := fd)
      (by rw [duties_cell m _ (isCell_snd si kk)]; exact Finset.mem_singleton_self _)
      (by rw [duties_cell m _ (isCell_rcv si kk)]; exact Finset.mem_singleton_self _)
      () () N ((View.amount_dma dst.view _).trans hN) (Rd_amount m _ _) (Rd_amount m _ _) (owe c (n + 1)) hO (W := W)
      (Entails.of_eq (hp₁.trans ((Rd_payload m c _).trans (payOf_snd m si kk c)).symm))
      (Entails.of_eq ((pointsTo_congr (write_agree dst.view fd g _ hg)).trans (hp₂.trans ((Rd_payload m _ _).trans (payOf_rcv m si kk (nb si c))).symm)))) $$ [HS HD HO HT₁ HT₂]
  · isplitr; · iapply (recs_inv m K c (iS si kk) _ (cellS_iS si kk)) $$ HR
    isplitr; · iapply (recs_inv m K (nb si c) (iR si kk) _ (cellS_iR si kk)) $$ HR
    isplitl [HS]; · iexact HS
    isplitl [HD]; · iexact HD
    isplitl [HO]; · iexact HO
    isplitl [HT₁]; · iexact HT₁
    isplitr; · iapply (recs_reached m K c (iS si kk) _ (cellS_iS si kk)) $$ HR
    isplitl [HT₂]; · iexact HT₂
    iexact Hr
  iintro ⟨HC, HO⟩
  iapply Hk
  isplitl [HC]; · iexact HC
  iexists W; iexact HO

/-- A wait on a DMA cell: the payload comes, and the cell closes at zero. -/
theorem st_waitD (c : Dev nD) (i : Fin 35) (n : ℕ) (s : DmaSem sig) (P : sProp 𝕄) (hs : cellS i = .dma s)
    (hP : payOf m (.dma s) c = P) (ha : above c n (lvS (.dma s)) = true)
    {sp sp' : Space} {s₁ s₂ : Shape} {e₁ e₂ : EltTy} {srcw : Memref sig .tc sp' s₁ e₁} {dstw : Memref sig .tc sp s₂ e₂} {hsrc : srcw.view.WordExact} {hdst : dstw.view.WordExact}
    (hN : dstw.view.dmaCredit = N) :
    iprop(recs m K ∗ cred (tallyAt ((c : Thread nD τ), .dma s) () N) ∗ ow c n ∗ atPos ER ((c : Thread nD τ), .dma s) 0 ∅ 0)
      ⊢ iprop((ow c n ∗ semVal ((c : Thread nD τ), .dma s) 0 ∗ P -∗ Wp c (k ⟨⟩) Q)
          -∗ Wp c (.op (.waitDma2 s srcw dstw hsrc hdst) k) Q) := by
  unfold ow
  have hcell : isCell (.dma s) = true := hs ▸ isCell_cellS i
  iintro ⟨#HR, HC, ⟨%W, HO⟩, HA⟩ Hk
  iapply (Rounds.wp_wait_rest_token 𝒱₀ ER (Rd m) (c : Thread nD τ) none (κ := K (c, i))
      (wpE_waitDma2_eq 𝒱₀ (c : Thread nD τ) none Set.univ) (Set.mem_univ _) () (O := owe c n) (W := W) (R := 0) (m := 0) (T := ∅)
      (by rw [Nat.zero_add, expect_cell m c hcell]; exact hN)) $$ [HC HO HA]
  · isplitr; · iapply (recs_inv m K c i _ hs) $$ HR
    isplitl [HC]; · rw [hN]; iexact HC
    isplitl [HO]; · iexact HO
    isplitr
    · iapply (mayWait_of_above c n (lvS (.dma s)) (.dma s) le_rfl ha)
      iapply (recs_lev m K) $$ HR
    iexact HA
  iintro ⟨HO, HA, -, HP⟩
  ihave HP := (Entails.of_eq ((rest_cell m c hcell).trans hP)) $$ HP
  imod (Rounds.cell_close ER (Rd m) (Set.mem_univ (K (c, i))) (fun h => h) (R := 0 + 1) (duties_later m ((c : Thread nD τ), .dma s))) $$ [HA] with Hz
  · isplitr; · iapply (recs_inv m K c i _ hs) $$ HR
    iexact HA
  iapply Hk
  isplitl [HO]; · iexists _; iexact HO
  isplitl [Hz] <;> iassumption

/-- A sender's wait: the source comes back. -/
theorem st_waitS (c : Dev nD) (si kk : Fin 4) (n : ℕ) (ha : above c n 0 = true)
    {sp sp' : Space} {s₁ s₂ : Shape} {e₁ e₂ : EltTy} {srcw : Memref sig .tc sp' s₁ e₁} {dstw : Memref sig .tc sp s₂ e₂} {hsrc : srcw.view.WordExact} {hdst : dstw.view.WordExact}
    (hN : dstw.view.dmaCredit = N) :
    iprop(recs m K ∗ cred (tallyAt (sndC si kk c) () N) ∗ ow c n ∗ atPos ER (sndC si kk c) 0 ∅ 0)
      ⊢ iprop((ow c n ∗ semVal (sndC si kk c) 0 ∗ sndPay m si kk c -∗ Wp c (k ⟨⟩) Q)
          -∗ Wp c (.op (.waitDma2 (snd si kk) srcw dstw hsrc hdst) k) Q) :=
  st_waitD m K c (iS si kk) n (snd si kk) _ (cellS_iS si kk) (payOf_snd m si kk c)
    (by rw [show lvS (.dma (snd si kk)) = 0 from by revert si kk; decide]; exact ha) hN

/-- A receiver's wait: the landing chunk comes. -/
theorem st_waitV (c : Dev nD) (si kk : Fin 4) (n : ℕ) (ha : above c n (lvS (.dma (rcv si kk))) = true)
    {sp sp' : Space} {s₁ s₂ : Shape} {e₁ e₂ : EltTy} {srcw : Memref sig .tc sp' s₁ e₁} {dstw : Memref sig .tc sp s₂ e₂} {hsrc : srcw.view.WordExact} {hdst : dstw.view.WordExact}
    (hN : dstw.view.dmaCredit = N) :
    iprop(recs m K ∗ cred (tallyAt (rcvC si kk c) () N) ∗ ow c n ∗ atPos ER (rcvC si kk c) 0 ∅ 0)
      ⊢ iprop((ow c n ∗ semVal (rcvC si kk c) 0 ∗ rcvPay m si kk c -∗ Wp c (k ⟨⟩) Q)
          -∗ Wp c (.op (.waitDma2 (rcv si kk) srcw dstw hsrc hdst) k) Q) :=
  st_waitD m K c (iR si kk) n (rcv si kk) _ (cellS_iR si kk) (payOf_rcv m si kk c) ha hN

/-- The wait for a neighbour's word. -/
theorem st_waitR (c : Dev nD) (j : Fin 3) (n : ℕ) (ha : above c n 1 = true) :
    iprop(recs m K ∗ cred (tallyAt (rdyC j c) () 1) ∗ ow c n ∗ atPos ER (rdyC j c) 0 ∅ 0)
      ⊢ iprop((ow c n ∗ semVal (rdyC j c) 0 ∗ rdyPay j c -∗ Wp c (k ⟨⟩) Q)
          -∗ Wp c (.op (.semWait (rdy j) 1) k) Q) := by
  unfold ow
  iintro ⟨#HR, HC, ⟨%W, HO⟩, HA⟩ Hk
  iapply (Rounds.wp_wait_rest_token 𝒱₀ ER (Rd m) (c : Thread nD τ) none (κ := K (c, iY j))
      (wpE_semWait_eq 𝒱₀ (c : Thread nD τ) none Set.univ) (Set.mem_univ _) () (O := owe c n) (W := W) (R := 0) (m := 0) (T := ∅)
      (by rw [Nat.zero_add, expect_cell m c (isCell_rdy j)]; rfl)) $$ [HC HO HA]
  · isplitr; · iapply (recs_inv m K c (iY j) _ (cellS_iY j)) $$ HR
    isplitl [HC]; · iexact HC
    isplitl [HO]; · iexact HO
    isplitr
    · iapply (mayWait_of_above c n 1 (.reg (rdy j)) le_rfl ha)
      iapply (recs_lev m K) $$ HR
    iexact HA
  iintro ⟨HO, HA, -, HP⟩
  ihave HP := (Entails.of_eq ((rest_cell m c (isCell_rdy j)).trans (payOf_rdy m j c))) $$ HP
  imod (Rounds.cell_close ER (Rd m) (Set.mem_univ (K (c, iY j))) (fun h => h) (R := 0 + 1) (duties_later m (rdyC j c))) $$ [HA] with Hz
  · isplitr; · iapply (recs_inv m K c (iY j) _ (cellS_iY j)) $$ HR
    iexact HA
  iapply Hk
  isplitl [HO]; · iexists _; iexact HO
  isplitl [Hz] <;> iassumption

/-- A local copy in flight: it will give back its destination at the named contents, and its source. -/
def Fly (c : Dev nD) (s : DmaSem sig) (M : ℕ) (D : sProp 𝕄) : sProp 𝕄 := Transfers.Flight EC (c : Thread nD τ) (.dma s) () M D

/-- A copy within the device. -/
theorem st_copy (c : Dev nD) {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (sig := sig) (p := .tc) sp (.dma sm) (.here dst)}
    (q : PosShare TreeShare) (fs : src.view.ty.Contents (Elt F)) (g : dst.view.ty.Contents (Elt F)) (hs : 0 < dst.view.dmaCredit)
    (hg : dst.view.read (Elt F) g = src.view.read (Elt F) fs) :
    iprop(at_ src c q fs ∗ (∃ fd, at_ dst c fullShare fd) ∗ semVal ((c : Thread nD τ), .dma sm) 0)
      ⊢ iprop((Fly c sm dst.view.dmaCredit iprop(at_ dst c fullShare g ∗ at_ src c q fs) -∗ Wp c (k ⟨⟩) Q)
          -∗ Wp c (.op (.enqueueDma src (.here dst) (.dma sm) hsrc hdst hsem) k) Q) := by
  unfold Fly
  iintro ⟨HS, ⟨%fd, HD⟩, Hv⟩ Hk
  iapply (Transfers.wp_dmaLocal EC 𝒱₀ (c : Thread nD τ) none (q := q) (fs := fs) (fd := fd) () dst.view.dmaCredit rfl hs (Finset.Subset.refl _)) $$ [HS HD Hv]
  · isplitl [HS]; · iexact HS
    isplitl [HD]; · iexact HD
    iexact Hv
  iintro HF
  iapply Hk
  iapply (Transfers.Flight_mono EC (c : Thread nD τ) (sep_mono_left (Entails.of_eq (pointsTo_congr (write_agree dst.view fd g _ hg))))) $$ HF

/-- The wait for it. -/
theorem st_waitL (c : Dev nD) (n : ℕ) (ha : above c n 0 = true) {sm : DmaSem sig} (hsm : lvS (.dma sm) ≤ 0) {M : ℕ} {D : sProp 𝕄}
    {sp sp' : Space} {s₁ s₂ : Shape} {e₁ e₂ : EltTy} {srcw : Memref sig .tc sp' s₁ e₁} {dstw : Memref sig .tc sp s₂ e₂} {hsrc : srcw.view.WordExact} {hdst : dstw.view.WordExact}
    (hN : dstw.view.dmaCredit = M) :
    iprop(recs m K ∗ Fly c sm M D ∗ ow c n)
      ⊢ iprop((D ∗ semVal ((c : Thread nD τ), .dma sm) 0 ∗ ow c n -∗ Wp c (k ⟨⟩) Q)
          -∗ Wp c (.op (.waitDma2 sm srcw dstw hsrc hdst) k) Q) := by
  unfold ow Fly
  iintro ⟨#HR, HF, ⟨%W, HO⟩⟩ Hk
  iapply (Transfers.wp_waitLocalO EC 𝒱₀ (c : Thread nD τ) none () hN) $$ [HF HO]
  · isplitl [HF]; · iexact HF
    isplitl [HO]; · iexact HO
    iapply (mayWait_of_above c n 0 (.dma sm) hsm ha)
    iapply (recs_lev m K) $$ HR
  iintro ⟨HD, Hz, HO⟩
  iapply Hk
  isplitl [HD]; · iexact HD
  isplitl [Hz]; · iexact Hz
  iexists _; iexact HO

/-- A load of what a slice holds. -/
theorem st_load (c : Dev nD) {cs : CoreSpace} {s : Shape} {e : EltTy} {M : Memref sig .tc cs s e} {r : Rect s} {hl : M.view.LoadsAt r}
    {kl : (r.shape.Idx → Elt F e) → Prog (TpuEff nD τ sig (Elt F) Λ₀ .tc) α} (hr : ∀ a, r.stride a = 1)
    (q : PosShare TreeShare) (f : M.view.ty.Contents (Elt F)) (v : r.shape.Idx → Elt F e) (hv : (M.access r).read (Elt F) f = v) :
    at_ (M.slice r hr) c q f
      ⊢ iprop((at_ (M.slice r hr) c q f -∗ Wp c (kl v) Q) -∗ Wp c (.op (.load M r hl) kl) Q) := by
  subst hv
  exact wp_load_rect 𝒱₀ (c : Thread nD τ) none Set.univ (m := M) (r := r) (Finset.Subset.refl _)

/-- A load of part of what a buffer holds. -/
theorem st_loadW (c : Dev nD) {cs : CoreSpace} {s : Shape} {e : EltTy} {M : Memref sig .tc cs s e} {r : Rect s} {hl : M.view.LoadsAt r}
    {kl : (r.shape.Idx → Elt F e) → Prog (TpuEff nD τ sig (Elt F) Λ₀ .tc) α}
    (q : PosShare TreeShare) (f : M.view.ty.Contents (Elt F)) (v : r.shape.Idx → Elt F e) (hv : (M.access r).read (Elt F) f = v) :
    at_ M c q f ⊢ iprop((at_ M c q f -∗ Wp c (kl v) Q) -∗ Wp c (.op (.load M r hl) kl) Q) := by
  subst hv
  refine wp_load_rect 𝒱₀ (c : Thread nD τ) none Set.univ (m := M) (r := r) ?_
  exact View.set_slice_subset _ _

/-- A store over a slice. -/
theorem st_store (c : Dev nD) {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1} (hr : ∀ a, r.stride a = 1)
    (f g : M.view.ty.Contents (Elt F)) (hg : (M.access r).read (Elt F) g = w) :
    at_ (M.slice r hr) c fullShare f
      ⊢ iprop((at_ (M.slice r hr) c fullShare g -∗ Wp c (k ⟨⟩) Q) -∗ Wp c (.op (.store M r w Finset.univ hx hm) k) Q) := by
  iintro H Hk
  iapply (wp_store 𝒱₀ (c : Thread nD τ) none Set.univ (m := M) (r := r) (Mk := Finset.univ) (S := (M.access r).set) (f := f) (Finset.Subset.refl _)) $$ H
  iintro H
  iapply Hk
  iapply (Entails.of_eq (pointsTo_congr (write_agree (M.access r) f g w hg))) $$ H

end Cert.KernelIdeal.NormRun

end
-- ==== Proof.Geo.lean ====
/-
Where the windows of the buffers lie: the offsets the program computes at device `c`, the buffers as the disjoint union of
their chunks, and what a view reads of the contents named in the protocol.
-/
module

public import proofs.«01_k».proof.Proof.Steps

@[expose] public section

noncomputable section

namespace Cert.KernelIdeal.NormRun

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-! ## The devices and the offsets -/

theorem dev4_eq (c : Dev nD) : (⟨k0_dev4 c, k0_dev4_lt c⟩ : Dev nD) = nb 0 c := by revert c; decide +kernel
theorem dev5_eq (c : Dev nD) : (⟨k0_dev5 c, k0_dev5_lt c⟩ : Dev nD) = nb 0 c := by revert c; decide +kernel
theorem dev6_eq (c : Dev nD) : (⟨k0_dev6 c, k0_dev6_lt c⟩ : Dev nD) = nb 0 c := by revert c; decide +kernel
theorem dev7_eq (c : Dev nD) : (⟨k0_dev7 c, k0_dev7_lt c⟩ : Dev nD) = nb 0 c := by revert c; decide +kernel
theorem dev8_eq (c : Dev nD) : (⟨k0_dev8 c, k0_dev8_lt c⟩ : Dev nD) = nb 1 c := by revert c; decide +kernel
theorem dev9_eq (c : Dev nD) : (⟨k0_dev9 c, k0_dev9_lt c⟩ : Dev nD) = nb 2 c := by revert c; decide +kernel
theorem dev10_eq (c : Dev nD) : (⟨k0_dev10 c, k0_dev10_lt c⟩ : Dev nD) = nb 3 c := by revert c; decide +kernel
theorem dev11_eq (c : Dev nD) : (⟨k0_dev11 c, k0_dev11_lt c⟩ : Dev nD) = nb 1 c := by revert c; decide +kernel
theorem dev12_eq (c : Dev nD) : (⟨k0_dev12 c, k0_dev12_lt c⟩ : Dev nD) = nb 2 c := by revert c; decide +kernel
theorem dev13_eq (c : Dev nD) : (⟨k0_dev13 c, k0_dev13_lt c⟩ : Dev nD) = nb 3 c := by revert c; decide +kernel
theorem dev14_eq (c : Dev nD) : (⟨k0_dev14 c, k0_dev14_lt c⟩ : Dev nD) = nb 1 c := by revert c; decide +kernel
theorem dev15_eq (c : Dev nD) : (⟨k0_dev15 c, k0_dev15_lt c⟩ : Dev nD) = nb 2 c := by revert c; decide +kernel
theorem dev16_eq (c : Dev nD) : (⟨k0_dev16 c, k0_dev16_lt c⟩ : Dev nD) = nb 3 c := by revert c; decide +kernel
theorem dev17_eq (c : Dev nD) : (⟨k0_dev17 c, k0_dev17_lt c⟩ : Dev nD) = nb 1 c := by revert c; decide +kernel
theorem dev18_eq (c : Dev nD) : (⟨k0_dev18 c, k0_dev18_lt c⟩ : Dev nD) = nb 2 c := by revert c; decide +kernel
theorem dev19_eq (c : Dev nD) : (⟨k0_dev19 c, k0_dev19_lt c⟩ : Dev nD) = nb 3 c := by revert c; decide +kernel

theorem off1_eq (c : Dev nD) (h : Fin 2) : k0_off1 c (BitVec.ofNat 32 (64 * h.val)) = ![0, 128 * (3 - quad c) + 64 * h.val, 0] := by
  revert c h; decide +kernel
theorem off2_eq (c : Dev nD) : k0_off2 c = ![0, 128 * quad c, 0] := by revert c; decide +kernel
theorem off3_eq (c : Dev nD) : k0_off3 c = ![128 * quad c, 0] := by revert c; decide +kernel
theorem off4_eq (c : Dev nD) (k : Fin 4) : k0_off4 c (BitVec.ofNat 32 (32 * k.val)) = ![128 * quad c + 32 * k.val, 0] := by
  revert c k; decide +kernel
theorem off5_eq (c : Dev nD) : k0_off5 c = ![128 * (3 - quad c), 0] := by revert c; decide +kernel
theorem off6_eq2 (c : Dev nD) : k0_off6 c 2#32 = ![128 * quad (px c), 0] := by revert c; decide +kernel
theorem off6_eq1 (c : Dev nD) : k0_off6 c 1#32 = ![128 * quad (py c), 0] := by revert c; decide +kernel
theorem quad_pz (c : Dev nD) : quad (pz c) = 3 - quad c := by revert c; decide +kernel
theorem quad_px_ne (c : Dev nD) : quad (px c) ≠ quad c ∧ quad (px c) ≠ 3 - quad c := by revert c; decide +kernel
theorem quad_py_ne (c : Dev nD) : quad (py c) ≠ quad c ∧ quad (py c) ≠ 3 - quad c ∧ quad (py c) ≠ quad (px c) := by revert c; decide +kernel

/-! ## The memrefs of the local copies -/

/-- Half `h` of the partial rows of the `z` neighbour's quadrant, in the argument. -/
abbrev sPM (c : Dev nD) (h : Fin 2) : Memref sig .tc .hbm S64x512 .f32 :=
  ((Memref.whole main_arg0).slice (Rect.unit (s := S1x512x512) (k0_off1 c (BitVec.ofNat 32 (64 * h.val))) S1x64x512.size (k0_off1_inb c h)) (fun _ => rfl)).squeeze S64x512 squeezes_S1x64x512_S64x512
/-- The partial rows of the own quadrant. -/
abbrev sQM (c : Dev nD) : Memref sig .tc .hbm S128x512 .f32 :=
  ((Memref.whole main_arg0).slice (Rect.unit (s := S1x512x512) (k0_off2 c) S1x128x512.size (k0_off2_inb c)) (fun _ => rfl)).squeeze S128x512 squeezes_S1x128x512_S128x512
/-- The residual's rows of the own quadrant. -/
abbrev sRM (c : Dev nD) : Memref sig .tc .hbm S128x512 .f32 :=
  (Memref.whole main_arg1).slice (Rect.unit (s := S512x512) (k0_off3 c) S128x512.size (k0_off3_inb c)) (fun _ => rfl)
/-- The scale's buffer as a vector. -/
abbrev gM : Memref sig .tc .vmem S512 .f32 :=
  ((Memref.whole cc0_scratch9).slice (Rect.unit (s := S1x512) ![0, 0] S1x512.size inb_S1x512_S1x512_0_0) (fun _ => rfl)).squeeze S512 squeezes_S1x512_S512
/-- Half `h` of the partial rows' buffer. -/
abbrev phM (h : Fin 2) : Memref sig .tc .vmem S64x512 .f32 := (Memref.whole cc0_scratch2).slice (hlf h) (fun _ => rfl)
/-- Chunk `k` of the normalised rows. -/
abbrev oqM (k : Fin 4) : Memref sig .tc .vmem S32x512 .f32 := (Memref.whole cc0_scratch6).slice (chk k) (fun _ => rfl)

/-- The windows of the result: the own quadrant's four chunks, then the neighbours' quadrants. -/
abbrev w4 (c : Dev nD) (k : Fin 4) : Rect S512x512 := Rect.unit (s := S512x512) (k0_off4 c (BitVec.ofNat 32 (32 * k.val))) S32x512.size (k0_off4_inb c k)
abbrev w5 (c : Dev nD) : Rect S512x512 := Rect.unit (s := S512x512) (k0_off5 c) S128x512.size (k0_off5_inb c)
abbrev w6 (c : Dev nD) : Rect S512x512 := Rect.unit (s := S512x512) (k0_off6 c 2#32) S128x512.size (k0_off6_inb c 1)
abbrev w7 (c : Dev nD) : Rect S512x512 := Rect.unit (s := S512x512) (k0_off6 c 1#32) S128x512.size (k0_off6_inb c 0)
abbrev outM (r : Rect S512x512) (h : ∀ a, r.stride a = 1) : Memref sig .tc .hbm r.shape .f32 := (Memref.whole main_v1).slice r h

/-! ## Buffers as their parts -/

section Split
variable {sp : Space} {s : Shape} {e : EltTy}

theorem split_rects (M : Memref sig .tc sp s e) (c : Dev nD) (q : PosShare TreeShare) (f : M.view.ty.Contents (Elt F)) {n : ℕ} (r : Rect s) (rs : Fin n → Rect s)
    (hd : ∀ t t', t ≠ t' → Disjoint (rs t).set (rs t').set) (hc : ∀ i, i ∈ r.set ↔ ∃ t, i ∈ (rs t).set) :
    (M.view.loc (c : Thread nD τ) ↦[(M.view.slice r).set]{q} f : sProp 𝕄)
      = bigSep Finset.univ fun t => M.view.loc (c : Thread nD τ) ↦[(M.view.slice (rs t)).set]{q} f := by
  rw [show (M.view.slice r).set = Finset.univ.biUnion fun t => (M.view.slice (rs t)).set from by
    ext i
    simp only [View.set_slice, Finset.mem_map, Finset.mem_biUnion, Finset.mem_univ, true_and]
    constructor
    · rintro ⟨j, hj, rfl⟩
      obtain ⟨t, ht⟩ := (hc j).mp hj
      exact ⟨t, j, ht, rfl⟩
    · rintro ⟨t, j, hj, rfl⟩
      exact ⟨j, (hc j).mpr ⟨t, hj⟩, rfl⟩]
  refine pointsTo_biUnion _ _ fun t _ t' _ hne => ?_
  rw [View.set_slice, View.set_slice]
  exact (Finset.disjoint_map _).mpr (hd t t' hne)

theorem at_whole_rect (M : Memref sig .tc sp s e) (c : Dev nD) (q : PosShare TreeShare) (f : M.view.ty.Contents (Elt F)) :
    (at_ M c q f : sProp 𝕄) = (M.view.loc (c : Thread nD τ) ↦[(M.view.slice (Rect.whole s)).set]{q} f) := by
  rw [View.set_slice, Rect.set_whole]; rfl

theorem at_squeeze (M : Memref sig .tc sp s e) {s' : Shape} (h : s.Squeezes s') (c : Dev nD) (q : PosShare TreeShare) (f : M.view.ty.Contents (Elt F)) :
    (at_ (M.squeeze s' h) c q f : sProp 𝕄) = at_ M c q f := by
  exact congrArg (fun S => (M.view.loc (c : Thread nD τ) ↦[S]{q} f : sProp 𝕄)) (View.set_reshape M.view _)

theorem bigSep_f2 (Φ : Fin 2 → sProp 𝕄) : bigSep Finset.univ Φ = iprop(Φ 0 ∗ Φ 1) := bigSep_univ_eq_bigSepL [0, 1] (by decide) (by decide) Φ
theorem bigSep_f3 (Φ : Fin 3 → sProp 𝕄) : bigSep Finset.univ Φ = iprop(Φ 0 ∗ Φ 1 ∗ Φ 2) := bigSep_univ_eq_bigSepL [0, 1, 2] (by decide) (by decide) Φ
theorem bigSep_f4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_f7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem mem_rows {R : ℕ} {lo h : ℕ} {inb} (i : (⟨2, ![R, 512]⟩ : Shape).Idx) :
    i ∈ (Rect.unit (s := ⟨2, ![R, 512]⟩) ![lo, 0] ![h, 512] inb).set ↔ lo ≤ (i 0).val ∧ (i 0).val < lo + h := by
  rw [Rect.mem_set_unit, Fin.forall_fin_two]
  refine ⟨fun h => h.1, fun h => ⟨h, Nat.zero_le _, ?_⟩⟩
  have : (i 1).val < 512 := (i 1).isLt
  simpa using this

theorem rows_disjoint {R : ℕ} (r r' : Rect (⟨2, ![R, 512]⟩ : Shape)) (lo h lo' h' : ℕ)
    (hr : ∀ i, i ∈ r.set ↔ lo ≤ (i 0).val ∧ (i 0).val < lo + h) (hr' : ∀ i, i ∈ r'.set ↔ lo' ≤ (i 0).val ∧ (i 0).val < lo' + h')
    (hd : lo + h ≤ lo' ∨ lo' + h' ≤ lo) : Disjoint r.set r'.set := by
  rw [Finset.disjoint_left]
  intro i hi hi'
  have := (hr i).mp hi
  have := (hr' i).mp hi'
  omega

variable (M : Memref sig .tc sp S128x512 e) (c : Dev nD) (q : PosShare TreeShare) (f : M.view.ty.Contents (Elt F))

/-- A quadrant's buffer, by chunks. -/
theorem at_chk4 : (at_ M c q f : sProp 𝕄) = iprop(at_ (M.slice (chk 0) (fun _ => rfl)) c q f ∗ at_ (M.slice (chk 1) (fun _ => rfl)) c q f
    ∗ at_ (M.slice (chk 2) (fun _ => rfl)) c q f ∗ at_ (M.slice (chk 3) (fun _ => rfl)) c q f) := by
  rw [at_whole_rect, split_rects M c q f (Rect.whole _) chk ?_ ?_, bigSep_f4]
  · intro t t' h
    refine rows_disjoint _ _ (32 * t.val) 32 (32 * t'.val) 32 mem_rows mem_rows ?_
    have : t.val ≠ t'.val := fun h' => h (Fin.ext h')
    omega
  · intro i
    rw [Rect.set_whole]
    simp only [Finset.mem_univ, true_iff]
    exact ⟨⟨(i 0).val / 32, by have h : (i 0).val < 128 := (i 0).isLt; omega⟩, (mem_rows i).mpr (by simp only; omega)⟩

/-- By halves. -/
theorem at_hlf2 : (at_ M c q f : sProp 𝕄) = iprop(at_ (M.slice (hlf 0) (fun _ => rfl)) c q f ∗ at_ (M.slice (hlf 1) (fun _ => rfl)) c q f) := by
  rw [at_whole_rect, split_rects M c q f (Rect.whole _) hlf ?_ ?_, bigSep_f2]
  · intro t t' h
    refine rows_disjoint _ _ (64 * t.val) 64 (64 * t'.val) 64 mem_rows mem_rows ?_
    have : t.val ≠ t'.val := fun h' => h (Fin.ext h')
    omega
  · intro i
    rw [Rect.set_whole]
    simp only [Finset.mem_univ, true_iff]
    exact ⟨⟨(i 0).val / 64, by have h : (i 0).val < 128 := (i 0).isLt; omega⟩, (mem_rows i).mpr (by simp only; omega)⟩

/-- A half, by chunks. -/
theorem at_hlf_chk (h : Fin 2) : (at_ (M.slice (hlf h) (fun _ => rfl)) c q f : sProp 𝕄)
    = iprop(at_ (M.slice (chk ⟨2 * h.val, by omega⟩) (fun _ => rfl)) c q f ∗ at_ (M.slice (chk ⟨2 * h.val + 1, by omega⟩) (fun _ => rfl)) c q f) := by
  rw [show (at_ (M.slice (hlf h) (fun _ => rfl)) c q f : sProp 𝕄) = _ from
    split_rects M c q f (hlf h) (fun t : Fin 2 => chk ⟨2 * h.val + t.val, by omega⟩) ?_ ?_, bigSep_f2]
  · rfl
  · intro t t' ht
    refine rows_disjoint _ _ (32 * (2 * h.val + t.val)) 32 (32 * (2 * h.val + t'.val)) 32 mem_rows mem_rows ?_
    have : t.val ≠ t'.val := fun h' => ht (Fin.ext h')
    omega
  · intro i
    constructor
    · intro hi
      have hi := (mem_rows i).mp hi
      exact ⟨⟨(i 0).val / 32 - 2 * h.val, by omega⟩, (mem_rows i).mpr (by simp only; omega)⟩
    · rintro ⟨t, ht⟩
      have ht := (mem_rows i).mp ht
      simp only at ht
      have := t.isLt
      exact (mem_rows i).mpr (by omega)

end Split

section Split3
variable {sp : Space} {e : EltTy} (M : Memref sig .tc sp S3x128x512 e) (c : Dev nD) (q : PosShare TreeShare) (f : M.view.ty.Contents (Elt F))

theorem mem_pln (li : Fin 3) (i : S3x128x512.Idx) : i ∈ (pln li).set ↔ (i 0).val = li.val := by
  rw [Rect.mem_set_unit]
  have h1 : (i 1).val < 128 := (i 1).isLt
  have h2 : (i 2).val < 512 := (i 2).isLt
  constructor
  · intro h
    have h : li.val ≤ (i 0).val ∧ (i 0).val < li.val + 1 := h 0
    omega
  · intro h a
    fin_cases a
    · show li.val ≤ (i 0).val ∧ (i 0).val < li.val + 1; omega
    · show 0 ≤ (i 1).val ∧ (i 1).val < 0 + 128; omega
    · show 0 ≤ (i 2).val ∧ (i 2).val < 0 + 512; omega

theorem mem_rxc (li : Fin 3) (k : Fin 4) (i : S3x128x512.Idx) :
    i ∈ (rxc li k).set ↔ (i 0).val = li.val ∧ 32 * k.val ≤ (i 1).val ∧ (i 1).val < 32 * k.val + 32 := by
  rw [Rect.mem_set_unit]
  have h2 : (i 2).val < 512 := (i 2).isLt
  constructor
  · intro h
    have h0 : li.val ≤ (i 0).val ∧ (i 0).val < li.val + 1 := h 0
    have h1 : 32 * k.val ≤ (i 1).val ∧ (i 1).val < 32 * k.val + 32 := h 1
    omega
  · intro h a
    fin_cases a
    · show li.val ≤ (i 0).val ∧ (i 0).val < li.val + 1; omega
    · show 32 * k.val ≤ (i 1).val ∧ (i 1).val < 32 * k.val + 32; omega
    · show 0 ≤ (i 2).val ∧ (i 2).val < 0 + 512; omega

/-- The landing buffer by planes. -/
theorem at_pln3 : (at_ M c q f : sProp 𝕄) = iprop(at_ (M.slice (pln 0) (fun _ => rfl)) c q f ∗ at_ (M.slice (pln 1) (fun _ => rfl)) c q f
    ∗ at_ (M.slice (pln 2) (fun _ => rfl)) c q f) := by
  rw [at_whole_rect, split_rects M c q f (Rect.whole _) pln ?_ ?_, bigSep_f3]
  · intro t t' h
    rw [Finset.disjoint_left]
    intro i hi hi'
    exact h (Fin.ext (((mem_pln t i).mp hi).symm.trans ((mem_pln t' i).mp hi')))
  · intro i
    rw [Rect.set_whole]
    simp only [Finset.mem_univ, true_iff]
    exact ⟨i 0, (mem_pln _ i).mpr rfl⟩

/-- A plane by chunks. -/
theorem at_rxc4 (li : Fin 3) : (at_ (M.slice (pln li) (fun _ => rfl)) c q f : sProp 𝕄)
    = iprop(at_ ((M.slice (rxc li 0) (fun _ => rfl)).squeeze S32x512 squeezes_S1x32x512_S32x512) c q f
      ∗ at_ ((M.slice (rxc li 1) (fun _ => rfl)).squeeze S32x512 squeezes_S1x32x512_S32x512) c q f
      ∗ at_ ((M.slice (rxc li 2) (fun _ => rfl)).squeeze S32x512 squeezes_S1x32x512_S32x512) c q f
      ∗ at_ ((M.slice (rxc li 3) (fun _ => rfl)).squeeze S32x512 squeezes_S1x32x512_S32x512) c q f) := by
  rw [at_squeeze, at_squeeze, at_squeeze, at_squeeze, show (at_ (M.slice (pln li) (fun _ => rfl)) c q f : sProp 𝕄) = _ from
    split_rects M c q f (pln li) (rxc li) ?_ ?_, bigSep_f4]
  · intro t t' h
    rw [Finset.disjoint_left]
    intro i hi hi'
    have := (mem_rxc li t i).mp hi
    have := (mem_rxc li t' i).mp hi'
    exact h (Fin.ext (by omega))
  · intro i
    have h1 : (i 1).val < 128 := (i 1).isLt
    constructor
    · intro hi
      have hi := (mem_pln li i).mp hi
      exact ⟨⟨(i 1).val / 32, by omega⟩, (mem_rxc li _ i).mpr ⟨hi, by simp only; omega⟩⟩
    · rintro ⟨t, ht⟩
      exact (mem_pln li i).mpr ((mem_rxc li t i).mp ht).1

end Split3

/-! ## The result by its windows -/

theorem mem_w4 (c : Dev nD) (k : Fin 4) (i : S512x512.Idx) :
    i ∈ (w4 c k).set ↔ 128 * quad c + 32 * k.val ≤ (i 0).val ∧ (i 0).val < 128 * quad c + 32 * k.val + 32 := by
  have h : ∀ (o : Fin 2 → ℕ) (inb), o = ![128 * quad c + 32 * k.val, 0] → (i ∈ (Rect.unit (s := S512x512) o S32x512.size inb).set ↔ 128 * quad c + 32 * k.val ≤ (i 0).val ∧ (i 0).val < 128 * quad c + 32 * k.val + 32) := by
    intro o inb ho; subst ho; exact mem_rows i
  exact h _ _ (off4_eq c k)
theorem mem_wq (i : S512x512.Idx) (n : ℕ) : ∀ (o : Fin 2 → ℕ) (inb), o = ![n, 0] →
    (i ∈ (Rect.unit (s := S512x512) o S128x512.size inb).set ↔ n ≤ (i 0).val ∧ (i 0).val < n + 128) := by
  intro o inb ho; subst ho; exact mem_rows i
theorem mem_w5 (c : Dev nD) (i : S512x512.Idx) : i ∈ (w5 c).set ↔ 128 * (3 - quad c) ≤ (i 0).val ∧ (i 0).val < 128 * (3 - quad c) + 128 :=
  mem_wq i _ _ _ (off5_eq c)
theorem mem_w6 (c : Dev nD) (i : S512x512.Idx) : i ∈ (w6 c).set ↔ 128 * quad (px c) ≤ (i 0).val ∧ (i 0).val < 128 * quad (px c) + 128 :=
  mem_wq i _ _ _ (off6_eq2 c)
theorem mem_w7 (c : Dev nD) (i : S512x512.Idx) : i ∈ (w7 c).set ↔ 128 * quad (py c) ≤ (i 0).val ∧ (i 0).val < 128 * quad (py c) + 128 :=
  mem_wq i _ _ _ (off6_eq1 c)

/-- All seven windows. -/
def wns (c : Dev nD) : Fin 7 → Rect S512x512
  | 0 => w4 c 0
  | 1 => w4 c 1
  | 2 => w4 c 2
  | 3 => w4 c 3
  | 4 => w5 c
  | 5 => w6 c
  | 6 => w7 c
/-- Where each begins, and how many rows it has. -/
def wlo (c : Dev nD) : Fin 7 → ℕ
  | 0 => 128 * quad c + 32 * 0
  | 1 => 128 * quad c + 32 * 1
  | 2 => 128 * quad c + 32 * 2
  | 3 => 128 * quad c + 32 * 3
  | 4 => 128 * (3 - quad c)
  | 5 => 128 * quad (px c)
  | 6 => 128 * quad (py c)
def wsz : Fin 7 → ℕ
  | 0 => 32
  | 1 => 32
  | 2 => 32
  | 3 => 32
  | 4 => 128
  | 5 => 128
  | 6 => 128

theorem mem_wns (c : Dev nD) (t : Fin 7) (i : S512x512.Idx) : i ∈ (wns c t).set ↔ wlo c t ≤ (i 0).val ∧ (i 0).val < wlo c t + wsz t := by
  fin_cases t
  · exact mem_w4 c 0 i
  · exact mem_w4 c 1 i
  · exact mem_w4 c 2 i
  · exact mem_w4 c 3 i
  · exact mem_w5 c i
  · exact mem_w6 c i
  · exact mem_w7 c i

theorem wns_apart : ∀ (c : Dev nD) (t t' : Fin 7), t ≠ t' → wlo c t + wsz t ≤ wlo c t' ∨ wlo c t' + wsz t' ≤ wlo c t := by decide +kernel
theorem wns_cover : ∀ (c : Dev nD) (b : Fin 16), ∃ t : Fin 7, wlo c t ≤ 32 * b.val ∧ 32 * b.val + 32 ≤ wlo c t + wsz t := by decide +kernel

/-- The result's buffer by its windows. -/
theorem at_out7 (c : Dev nD) (q : PosShare TreeShare) (f : S512x512.Idx → Elt F .f32) :
    (at_ (Memref.whole main_v1) c q f : sProp 𝕄) = iprop(at_ (outM (w4 c 0) (fun _ => rfl)) c q f ∗ at_ (outM (w4 c 1) (fun _ => rfl)) c q f
      ∗ at_ (outM (w4 c 2) (fun _ => rfl)) c q f ∗ at_ (outM (w4 c 3) (fun _ => rfl)) c q f
      ∗ at_ (outM (w5 c) (fun _ => rfl)) c q f ∗ at_ (outM (w6 c) (fun _ => rfl)) c q f ∗ at_ (outM (w7 c) (fun _ => rfl)) c q f) := by
  rw [at_whole_rect, split_rects (Memref.whole main_v1) c q f (Rect.whole _) (wns c) ?_ ?_, bigSep_f7]
  · rfl
  · intro t t' h
    exact rows_disjoint _ _ (wlo c t) (wsz t) (wlo c t') (wsz t') (mem_wns c t) (mem_wns c t') (wns_apart c t t' h)
  · intro i
    rw [show (Rect.whole (Memref.whole main_v1 : Memref sig .tc _ _ _).view.ty.shape).set = Finset.univ from Rect.set_whole _]
    have h : (i 0).val < 512 := (i 0).isLt
    simp only [Finset.mem_univ, true_iff]
    obtain ⟨t, h1, h2⟩ := wns_cover c ⟨(i 0).val / 32, by omega⟩
    exact ⟨t, (mem_wns c t i).mpr (by simp only at h1 h2; omega)⟩

end Cert.KernelIdeal.NormRun

end
-- ==== Proof.Vals.lean ====
/-
What the views read: every copy carries, and every store writes, the contents the protocol names.
-/
module

public import proofs.«01_k».proof.Proof.Geo

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (c : Dev nD)

/-- A row-and-column index with a unit axis put before it. -/
theorem sq_idx {R C : ℕ} (h : (⟨2, ![R, C]⟩ : Shape).numel = (⟨3, ![1, R, C]⟩ : Shape).numel) (x : (⟨2, ![R, C]⟩ : Shape).Idx) :
    Shape.reshapeEquiv h x = ix3 (⟨0, Nat.one_pos⟩ : Fin 1) (x 0) (x 1) := by
  have e : x = ValueIdx.ix2 (n0 := R) (n1 := C) (x 0) (x 1) := ValueIdx.eq_ix2 x
  refine (congrArg (Shape.reshapeEquiv h) e).trans ((ValueIdx.reshapeEquiv_ix2_1ab h _ _).trans ?_)
  funext a
  fin_cases a <;> rfl

/-- An index of a slice of the partial rows, the unit axis dropped. -/
theorem emb_sq {R n : ℕ} (o : Fin 3 → ℕ) (ho : o = ![0, n, 0]) (inb : ∀ a, o a + (⟨3, ![1, R, 512]⟩ : Shape).size a ≤ S1x512x512.size a)
    (hq : (⟨2, ![R, 512]⟩ : Shape).numel = (⟨3, ![1, R, 512]⟩ : Shape).numel) (x : (⟨2, ![R, 512]⟩ : Shape).Idx) (hb : n + (x 0).val < 512) :
    (Rect.unit (s := S1x512x512) o (⟨3, ![1, R, 512]⟩ : Shape).size inb).emb (Shape.reshapeEquiv hq x)
      = ix3 (⟨0, Nat.one_pos⟩ : Fin 1) (⟨n + (x 0).val, hb⟩ : Fin 512) (x 1) := by
  subst ho
  rw [show Shape.reshapeEquiv hq x = _ from sq_idx hq x]
  funext a
  refine Fin.ext ?_
  fin_cases a
  · show 0 + 1 * 0 = 0; rfl
  · show n + 1 * (x 0).val = n + (x 0).val; omega
  · show 0 + 1 * (x 1).val = (x 1).val; omega

theorem rd_sP (h : Fin 2) : (phM h).view.read (Elt F) (psW m c) = (sPM c h).view.read (Elt F) (V m c main_arg0) := by
  funext x
  have hx : (x 0).val < 64 := (x 0).isLt
  have := quad_lt c
  refine Eq.symm (congrArg (V m c main_arg0 : S1x512x512.Idx → Elt F .f32)
    ((emb_sq (R := 64) (n := 128 * (3 - quad c) + 64 * h.val) _ (off1_eq c h) (k0_off1_inb c h) _ x (by omega)).trans ?_))
  refine congrArg₂ (ix3 (⟨0, Nat.one_pos⟩ : Fin 1)) (Fin.ext ?_) (Fin.ext ?_)
  · show 128 * (3 - quad c) + 64 * h.val + (x 0).val = 128 * (3 - quad c) + (64 * h.val + 1 * (x 0).val); omega
  · show (x 1).val = 0 + 1 * (x 1).val; omega

theorem rd_sQ : (Memref.whole cc0_scratch4).view.read (Elt F) (pmW m c) = (sQM c).view.read (Elt F) (V m c main_arg0) := by
  funext x
  have hx : (x 0).val < 128 := (x 0).isLt
  have := quad_lt c
  exact Eq.symm (congrArg (V m c main_arg0 : S1x512x512.Idx → Elt F .f32)
    (emb_sq (R := 128) (n := 128 * quad c) _ (off2_eq c) (k0_off2_inb c) _ x (by omega)))

/-- An index of a window of rows. -/
theorem emb_row {R h n : ℕ} (o : Fin 2 → ℕ) (ho : o = ![n, 0]) (inb : ∀ a, o a + (⟨2, ![h, 512]⟩ : Shape).size a ≤ (⟨2, ![R, 512]⟩ : Shape).size a)
    (x : (⟨2, ![h, 512]⟩ : Shape).Idx) (hb : n + (x 0).val < R) :
    (Rect.unit (s := ⟨2, ![R, 512]⟩) o (⟨2, ![h, 512]⟩ : Shape).size inb).emb x = ix2 (⟨n + (x 0).val, hb⟩ : Fin R) (x 1) := by
  subst ho
  funext a
  refine Fin.ext ?_
  fin_cases a
  · show n + 1 * (x 0).val = n + (x 0).val; omega
  · show 0 + 1 * (x 1).val = (x 1).val; omega

theorem rd_sR : (Memref.whole cc0_scratch5).view.read (Elt F) (rqW m c) = (sRM c).view.read (Elt F) (V m c main_arg1) := by
  funext x
  have hx : (x 0).val < 128 := (x 0).isLt
  have := quad_lt c
  exact Eq.symm (congrArg (V m c main_arg1 : S512x512.Idx → Elt F .f32)
    (emb_row (R := 512) (h := 128) (n := 128 * quad c) _ (off3_eq c) (k0_off3_inb c) x (by omega)))

theorem rd_g : gM.view.read (Elt F) (gvW m c) = (Memref.whole main_arg2).view.read (Elt F) (V m c main_arg2) := by
  funext x
  refine congrArg (V m c main_arg2 : S512.Idx → Elt F .f32) ?_
  have h : ∀ hq : S512.numel = S1x512.numel, Shape.reshapeEquiv hq x = Fin.cons (⟨0, Nat.one_pos⟩ : Fin 1) x :=
    fun hq => Shape.reshapeEquiv_cons_one hq x
  refine (congrArg (fun z : S1x512.Idx => (ix1 ((Rect.unit (s := S1x512) ![0, 0] S1x512.size inb_S1x512_S1x512_0_0).emb z 1) : S512.Idx)) (h _)).trans ?_
  funext a
  fin_cases a
  refine Fin.ext ?_
  show 0 + 1 * (x 0).val = (x 0).val
  omega

theorem rd_cm (k : Fin 4) : (cmM k).view.read (Elt F) (cmW m (nb 0 c)) = (psM k).view.read (Elt F) (psbW m c) := by
  unfold cmW
  rw [show pz (nb 0 c) = c from pz_pz c]
  rfl

theorem rx_emb (li : Fin 3) (k : Fin 4) (hq) (x : S32x512.Idx) :
    (rxc li k).emb (Shape.reshapeEquiv hq x) = ix3 li ((chk k).emb x 0) ((chk k).emb x 1) := by
  rw [show Shape.reshapeEquiv hq x = _ from sq_idx hq x]
  funext a
  refine Fin.ext ?_
  fin_cases a
  · show li.val + 1 * 0 = li.val; omega
  · rfl
  · rfl

theorem rd_rx (li : Fin 3) (k : Fin 4) : (rxM li k).view.read (Elt F) (rxW m (nb li.succ c)) = (nbM k).view.read (Elt F) (nbW m c) := by
  funext x
  show rxW m (nb li.succ c) ((rxc li k).emb (Shape.reshapeEquiv _ x)) = nbW m c ((chk k).emb x)
  rw [rx_emb]
  unfold rxW
  show nbW m (nb li.succ (nb li.succ c)) (ix2 ((chk k).emb x 0) ((chk k).emb x 1)) = _
  rw [nb_nb]
  exact congrArg (nbW m c) (eq_ix2 _).symm

/-! ## The result's windows -/

theorem rd_o4 (k : Fin 4) : (outM (w4 c k) (fun _ => rfl)).view.read (Elt F) (outW m c) = (oqM k).view.read (Elt F) (nfW m c) := by
  funext x
  have hx : (x 0).val < 32 := (x 0).isLt
  have hk := k.isLt
  have hq := quad_lt c
  show outW m c ((w4 c k).emb x) = nfW m c ((chk k).emb x)
  rw [emb_row (R := 512) (h := 32) (n := 128 * quad c + 32 * k.val) _ (off4_eq c k) (k0_off4_inb c k) x (by omega)]
  unfold outW
  rw [if_pos (by show (128 * quad c + 32 * k.val + (x 0).val) / 128 = quad c; omega)]
  refine congrArg (nfW m c) ?_
  rw [eq_ix2 ((chk k).emb x)]
  refine congrArg₂ ix2 (Fin.ext ?_) (Fin.ext ?_)
  · show (128 * quad c + 32 * k.val + (x 0).val) % 128 = 32 * k.val + 1 * (x 0).val; omega
  · show (x 1).val = 0 + 1 * (x 1).val; omega

theorem rd_oq {n : ℕ} (hn : n < 4) (o : Fin 2 → ℕ) (ho : o = ![128 * n, 0]) (inb) (W : f32Q F)
    (hW : ∀ i : S512x512.Idx, (i 0).val / 128 = n → outW m c i = W (ix2 (⟨(i 0).val % 128, Nat.mod_lt _ (by decide)⟩ : Fin 128) (i 1))) :
    (outM (Rect.unit (s := S512x512) o S128x512.size inb) (fun _ => rfl)).view.read (Elt F) (outW m c) = W := by
  funext x
  have hx : (x 0).val < 128 := (x 0).isLt
  show outW m c ((Rect.unit (s := S512x512) o S128x512.size inb).emb x) = W x
  rw [emb_row (R := 512) (h := 128) (n := 128 * n) o ho inb x (by omega)]
  refine (hW _ (by show (128 * n + (x 0).val) / 128 = n; omega)).trans ?_
  refine congrArg W ?_
  conv_rhs => rw [eq_ix2 x]
  refine congrArg₂ ix2 (Fin.ext ?_) rfl
  show (128 * n + (x 0).val) % 128 = (x 0).val; omega

theorem rd_o5 : (outM (w5 c) (fun _ => rfl)).view.read (Elt F) (outW m c) = (Memref.whole cc0_scratch2).view.read (Elt F) (wdW m 0 c) := by
  have hq := quad_lt c
  refine rd_oq (m := m) (c := c) (n := 3 - quad c) (by omega) _ (off5_eq c) _ (wdW m 0 c) fun i hi => ?_
  unfold outW
  rw [if_neg (by rw [hi]; omega), if_pos hi]
theorem rd_o6 : (outM (w6 c) (fun _ => rfl)).view.read (Elt F) (outW m c) = (Memref.whole cc0_scratch4).view.read (Elt F) (wdW m 1 c) := by
  have hq := quad_lt (px c)
  have h := quad_px_ne c
  refine rd_oq (m := m) (c := c) (n := quad (px c)) (by omega) _ (off6_eq2 c) _ (wdW m 1 c) fun i hi => ?_
  unfold outW
  rw [if_neg (by rw [hi]; exact h.1), if_neg (by rw [hi]; exact h.2), if_pos hi]
theorem rd_o7 : (outM (w7 c) (fun _ => rfl)).view.read (Elt F) (outW m c) = (Memref.whole cc0_scratch5).view.read (Elt F) (wdW m 2 c) := by
  have hq := quad_lt (py c)
  have h := quad_py_ne c
  refine rd_oq (m := m) (c := c) (n := quad (py c)) (by omega) _ (off6_eq1 c) _ (wdW m 2 c) fun i hi => ?_
  unfold outW
  rw [if_neg (by rw [hi]; exact h.1), if_neg (by rw [hi]; exact h.2.1), if_neg (by rw [hi]; exact h.2.2)]

/-! ## The loads and the stores -/

/-- A whole buffer's load. -/
theorem ld_whole2 (b : Ref sig .tc) (h : b.ty.shape.rank = 2) {o : Fin b.ty.shape.rank → ℕ} (ho : o = fun _ => 0) (inb) (f : b.ty.Contents (Elt F)) :
    ((Memref.whole b).access (Rect.unit o b.ty.shape.size inb)).read (Elt F) f = f :=
  Memref.read_access_unit_zero (Elt F) b ho inb f

theorem zero2 : (![0, 0] : Fin 2 → ℕ) = fun _ => 0 := by decide

theorem wr_ps (h : Fin 2) (v : Vec F S64x512 .f32) (hv : v = (phM h).view.read (Elt F) (psW m c)) :
    ((Memref.whole cc0_scratch3).access (hlf h)).read (Elt F) (psbW m c) = truncf .bf16 v bitsLt_bf16_f32 := by
  subst hv; rfl
theorem wr_ps1 : ((Memref.whole cc0_scratch3).access (hlf 0)).read (Elt F) (psbW m c) = k0_pay1 ((phM 0).view.read (Elt F) (psW m c)) := by
  exact (wr_ps m c 0 _ rfl).trans (shapeCast_self _ _).symm
theorem wr_ps2 : ((Memref.whole cc0_scratch3).access (hlf 1)).read (Elt F) (psbW m c) = k0_pay2 ((phM 1).view.read (Elt F) (psW m c)) := by
  exact (wr_ps m c 1 _ rfl).trans (shapeCast_self _ _).symm
theorem wr_ac : k0_pay3 (pmW m c) (rqW m c) = acW m c := by
  refine (shapeCast_self _ _).trans ?_; rfl

theorem ckOf_chk (k : Fin 4) (x : S32x512.Idx) : ckOf ((chk k).emb x) = k := by
  have hx : (x 0).val < 32 := (x 0).isLt
  refine Fin.ext ?_
  show (32 * k.val + 1 * (x 0).val) / 32 = k.val; omega
theorem inCk_chk (k : Fin 4) (x : S32x512.Idx) : inCk ((chk k).emb x) = x := by
  have hx : (x 0).val < 32 := (x 0).isLt
  conv_rhs => rw [eq_ix2 x]
  refine congrArg₂ ix2 (Fin.ext ?_) (Fin.ext ?_)
  · show (32 * k.val + 1 * (x 0).val) % 32 = (x 0).val; omega
  · show 0 + 1 * (x 1).val = (x 1).val; omega

/-- What the program computes of chunk `k`. -/
abbrev yW (k : Fin 4) : FVec F S32x512 .f32 := k0_pay11 (ckRead (acW m c) k) (ckRead (cmW m c) k) (gvW m c)

theorem wr_nf (k : Fin 4) : ((Memref.whole cc0_scratch6).access (chk k)).read (Elt F) (nfW m c) = yW m c k := by
  funext x
  show nfW m c ((chk k).emb x) = _
  unfold nfW
  rw [ckOf_chk, inCk_chk]
theorem wr_nb (k : Fin 4) : ((Memref.whole cc0_scratch7).access (chk k)).read (Elt F) (nbW m c) = truncf .bf16 (yW m c k) bitsLt_bf16_f32 := by
  rw [← wr_nf m c k]; rfl

variable (a : Vec F S32x512 .f32) (b : Vec F S32x512 .bf16) (g : Vec F S1x512 .f32)

theorem pay11_eq : k0_pay11 a b g = k0_pay10 a b g := by unfold k0_pay11; exact shapeCast_self _ _
theorem pay7_eq : k0_pay7 (k0_pay4 a b) (k0_pay5 a b) k0_pay6 g = k0_pay10 a b g := rfl
theorem pay15_eq : k0_pay15 (k0_pay13 a b) (k0_pay14 a b) g = k0_pay10 a b g := rfl
theorem pay18_eq : k0_pay18 a b g = k0_pay10 a b g := rfl
theorem pay8_eq : k0_pay8 (k0_pay4 a b) (k0_pay5 a b) k0_pay6 g = k0_pay11 a b g := by
  rw [pay11_eq]; refine (shapeCast_self _ _).trans ?_; exact pay7_eq a b g
theorem pay9_eq : k0_pay9 (k0_pay4 a b) (k0_pay5 a b) k0_pay6 g = truncf .bf16 (k0_pay11 a b g) bitsLt_bf16_f32 := by
  rw [pay11_eq]; refine (shapeCast_self _ _).trans ?_; rw [pay7_eq]
theorem pay12_eq : k0_pay12 a b g = truncf .bf16 (k0_pay11 a b g) bitsLt_bf16_f32 := by
  rw [pay11_eq]; exact shapeCast_self _ _
theorem pay16_eq : k0_pay16 (k0_pay13 a b) (k0_pay14 a b) g = k0_pay11 a b g := by
  rw [pay11_eq]; refine (shapeCast_self _ _).trans ?_; exact pay15_eq a b g
theorem pay17_eq : k0_pay17 (k0_pay13 a b) (k0_pay14 a b) g = truncf .bf16 (k0_pay11 a b g) bitsLt_bf16_f32 := by
  rw [pay11_eq]; refine (shapeCast_self _ _).trans ?_; rw [pay15_eq]
theorem pay19_eq : k0_pay19 a b g = k0_pay11 a b g := by
  rw [pay11_eq]; refine (shapeCast_self _ _).trans ?_; exact pay18_eq a b g
theorem pay21_eq : k0_pay21 (k0_pay20 a b g) = truncf .bf16 (k0_pay11 a b g) bitsLt_bf16_f32 := by
  rw [pay11_eq]; refine (shapeCast_self _ _).trans ?_; unfold k0_pay20; rw [pay18_eq]

theorem pln_cast (li : Fin 3) : shapeCast S128x512 (((Memref.whole cc0_scratch8).access (pln li)).read (Elt F) (rxW m c)) shapeCasts_S1x128x512_S128x512
    = nbW m (nb li.succ c) := by
  funext x
  show rxW m c ((pln li).emb (Shape.reshapeEquiv _ x)) = _
  rw [show (pln li).emb (Shape.reshapeEquiv shapeCasts_S1x128x512_S128x512 x) = ix3 li (x 0) (x 1) from by
    rw [show Shape.reshapeEquiv shapeCasts_S1x128x512_S128x512 x = _ from sq_idx (R := 128) (C := 512) _ x]
    funext a
    refine Fin.ext ?_
    fin_cases a
    · show li.val + 1 * 0 = li.val; omega
    · show 0 + 1 * (x 0).val = (x 0).val; omega
    · show 0 + 1 * (x 1).val = (x 1).val; omega]
  exact congrArg (nbW m (nb li.succ c)) (eq_ix2 x).symm

theorem pay22_eq : k0_pay22 (((Memref.whole cc0_scratch8).access (pln 0)).read (Elt F) (rxW m c)) = wdW m 0 c := by
  refine (shapeCast_self _ _).trans ?_; rw [pln_cast]; rfl
theorem pay23_eq : k0_pay23 (((Memref.whole cc0_scratch8).access (pln 1)).read (Elt F) (rxW m c)) = wdW m 1 c := by
  refine (shapeCast_self _ _).trans ?_; rw [pln_cast]; rfl
theorem pay24_eq : k0_pay24 (((Memref.whole cc0_scratch8).access (pln 2)).read (Elt F) (rxW m c)) = wdW m 2 c := by
  refine (shapeCast_self _ _).trans ?_; rw [pln_cast]; rfl

end Cert.KernelIdeal.NormRun

end
-- ==== Proof.Kit.lean ====
/-
What the parts of the body share: the parts at the kernel's own buffers, the names of the local copies' semaphores, and small
facts about the pieces a part takes and gives.
-/
module

public import proofs.«01_k».proof.Proof.Vals
public import proofs.«01_k».proof.Proof.Steps

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

/-- A part of the body before it is given its buffers and semaphores. -/
abbrev Part (α : Type 1) : Type 1 :=
  (a0 : Memref sig .tc .hbm S1x512x512 .f32) → a0.IsWhole →
  (a1 : Memref sig .tc .hbm S512x512 .f32) → a1.IsWhole →
  (a2 : Memref sig .tc .hbm S512 .f32) → a2.IsWhole →
  (a3 : Memref sig .tc .hbm S512x512 .f32) → a3.IsWhole →
  (a4 : Memref sig .tc .vmem S128x512 .bf16) → a4.IsWhole →
  (a5 : Memref sig .tc .vmem S128x512 .f32) → a5.IsWhole →
  (a6 : Memref sig .tc .vmem S128x512 .f32) → a6.IsWhole →
  (a7 : Memref sig .tc .vmem S128x512 .bf16) → a7.IsWhole →
  (a8 : Memref sig .tc .vmem S128x512 .f32) → a8.IsWhole →
  (a9 : Memref sig .tc .vmem S128x512 .f32) → a9.IsWhole →
  (a10 : Memref sig .tc .vmem S128x512 .f32) → a10.IsWhole →
  (a11 : Memref sig .tc .vmem S128x512 .bf16) → a11.IsWhole →
  (a12 : Memref sig .tc .vmem S3x128x512 .bf16) → a12.IsWhole →
  (a13 : Memref sig .tc .vmem S1x512 .f32) → a13.IsWhole →
  DmaSems sig S6 → DmaSems sig S4 → DmaSems sig S4x4 → DmaSems sig S4x4 → Sems sig S2 → α

/-- The same at the kernel's own. -/
abbrev on {α : Type 1} (p : Part α) : α :=
  p (Memref.whole main_arg0) (Memref.isWhole_whole _) (Memref.whole main_arg1) (Memref.isWhole_whole _) (Memref.whole main_arg2) (Memref.isWhole_whole _)
    (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12 cc0_scratch13 cc0_scratch14

/-- The semaphores of the local copies: 0 to 5 the loads' (the first three also the last stores'), 6 to 9 the first four stores'. -/
def lsem (i : Fin 10) : DmaSem sig := (⟨i.val, by omega⟩ : Fin 42)

/-- The last step of a part. -/
theorem wp_done {α : Type} (c : Dev nD) (x : α) (Q : α → sProp (MT nD τ sig Unit (Elt F) ℕ UU ℕ)) : Q x ⊢ Wp c (.ret x) Q := by
  unfold Wp; rw [wp_ret]; iintro H; imodintro; iexact H

theorem cur2 {A B R : sProp (MT nD τ sig Unit (Elt F) ℕ UU ℕ)} (h : iprop(A ∗ B) ⊢ R) : A ⊢ iprop(B -∗ R) := by
  iintro HA HB; iapply h; isplitl [HA]; · iexact HA
  iexact HB
theorem cur3 {A B C R : sProp (MT nD τ sig Unit (Elt F) ℕ UU ℕ)} (h : iprop(A ∗ B ∗ C) ⊢ R) : A ⊢ iprop(B -∗ C -∗ R) := by
  iintro HA HB HC; iapply h; isplitl [HA]; · iexact HA
  isplitl [HB]; · iexact HB
  iexact HC
theorem cur4 {A B C D R : sProp (MT nD τ sig Unit (Elt F) ℕ UU ℕ)} (h : iprop(A ∗ B ∗ C ∗ D) ⊢ R) : A ⊢ iprop(B -∗ C -∗ D -∗ R) := by
  iintro HA HB HC HD; iapply (cur3 (h := h)) $$ HA HB
  isplitl [HC]; · iexact HC
  iexact HD
theorem cur6 {A B C D E G R : sProp (MT nD τ sig Unit (Elt F) ℕ UU ℕ)} (h : iprop(A ∗ B ∗ C ∗ D ∗ E ∗ G) ⊢ R) :
    A ⊢ iprop(B -∗ C -∗ D -∗ E -∗ G -∗ R) := by
  iintro HA HB HC HD HE HG; iapply (cur4 (h := h)) $$ HA HB HC
  isplitl [HD]; · iexact HD
  isplitl [HE]; · iexact HE
  iexact HG

theorem above_wait (c : Dev nD) : above c 7 1 = true := by revert c; decide +kernel

/-- A store over a whole buffer. -/
theorem st_storeW {α : Type} {Q : α → sProp (MT nD τ sig Unit (Elt F) ℕ UU ℕ)} {k : PUnit → Prog (TpuEff nD τ sig (Elt F) Λ₀ .tc) α}
    (c : Dev nD) {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    (f g : M.view.ty.Contents (Elt F)) (hw : (M.access r).write (Elt F) f w Finset.univ = g) :
    at_ M c fullShare f
      ⊢ iprop((at_ M c fullShare g -∗ Wp c (k ⟨⟩) Q) -∗ Wp c (.op (.store M r w Finset.univ hx hm) k) Q) := by
  subst hw
  exact wp_store 𝒱₀ (c : Thread nD τ) none Set.univ (m := M) (r := r) (Mk := Finset.univ) (S := M.view.set) (f := f) (View.set_slice_subset _ _)

/-- The credit of a copy into `M`. -/
def crOf {sp : Space} {s : Shape} {e : EltTy} (M : Memref sig .tc sp s e) : ℕ := M.view.dmaCredit

/-- A local copy under way. -/
theorem st_copyM {α : Type} {Q : α → sProp (MT nD τ sig Unit (Elt F) ℕ UU ℕ)} {k : PUnit → Prog (TpuEff nD τ sig (Elt F) Λ₀ .tc) α}
    (c : Dev nD) {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (sig := sig) (p := .tc) sp (.dma sm) (.here dst)}
    (q : PosShare TreeShare) (fs : src.view.ty.Contents (Elt F)) (g : dst.view.ty.Contents (Elt F)) (hs : 0 < dst.view.dmaCredit)
    (hg : dst.view.read (Elt F) g = src.view.read (Elt F) fs) :
    iprop(at_ src c q fs ∗ (∃ fd, at_ dst c fullShare fd) ∗ semVal ((c : Thread nD τ), .dma sm) 0)
      ⊢ iprop((Fly c sm (crOf dst) iprop(at_ dst c fullShare g ∗ at_ src c q fs) -∗ Wp c (k ⟨⟩) Q)
          -∗ Wp c (.op (.enqueueDma src (.here dst) (.dma sm) hsrc hdst hsem) k) Q) :=
  st_copy c q fs g hs hg

variable (m : (ℓ : Loc nD τ sig) → Buf (Elt F) ℓ) (c : Dev nD)

theorem rdyPay_0 : rdyPay (F := F) 0 c = iprop((slot (cmM 0) 0 0 (nb 0 c) ∗ slot (cmM 1) 0 1 (nb 0 c) ∗ slot (cmM 2) 0 2 (nb 0 c) ∗ slot (cmM 3) 0 3 (nb 0 c))
    ∗ (slot (rxM 0 0) 1 0 (nb 1 c) ∗ slot (rxM 0 1) 1 1 (nb 1 c) ∗ slot (rxM 0 2) 1 2 (nb 1 c) ∗ slot (rxM 0 3) 1 3 (nb 1 c))) := rfl
theorem rdyPay_1 : rdyPay (F := F) 1 c = iprop(slot (rxM 1 0) 2 0 (nb 2 c) ∗ slot (rxM 1 1) 2 1 (nb 2 c) ∗ slot (rxM 1 2) 2 2 (nb 2 c) ∗ slot (rxM 1 3) 2 3 (nb 2 c)) := rfl
theorem rdyPay_2 : rdyPay (F := F) 2 c = iprop(slot (rxM 2 0) 3 0 (nb 3 c) ∗ slot (rxM 2 1) 3 1 (nb 3 c) ∗ slot (rxM 2 2) 3 2 (nb 3 c) ∗ slot (rxM 2 3) 3 3 (nb 3 c)) := rfl

/-- A half of the rounded partial rows, by the chunks that are sent. -/
theorem psb_hlf0 (f : b16Q F) : (at_ ((Memref.whole cc0_scratch3).slice (hlf 0) (fun _ => rfl)) c fullShare f : sProp 𝕄)
    = iprop(at_ (psM 0) c fullShare f ∗ at_ (psM 1) c fullShare f) := at_hlf_chk (Memref.whole cc0_scratch3) c fullShare f 0
theorem psb_hlf1 (f : b16Q F) : (at_ ((Memref.whole cc0_scratch3).slice (hlf 1) (fun _ => rfl)) c fullShare f : sProp 𝕄)
    = iprop(at_ (psM 2) c fullShare f ∗ at_ (psM 3) c fullShare f) := at_hlf_chk (Memref.whole cc0_scratch3) c fullShare f 1

/-- A chunk of the rounded normalised rows, in three shares. -/
theorem nb_thirds (k : Fin 4) (f : b16Q F) : (at_ (nbM k) c fullShare f : sProp 𝕄)
    ⊣⊢ iprop(at_ (nbM k) c (shr 1) f ∗ at_ (nbM k) c (shr 2) f ∗ at_ (nbM k) c (shr 3) f) := by
  rw [show shr 1 = shares3 fullShare 0 from rfl, show shr 2 = shares3 fullShare 1 from rfl, show shr 3 = shares3 fullShare 2 from rfl]
  exact pointsTo_thirds (ℓ := (nbM k).view.loc (c : Thread nD τ)) (I := (nbM k).view.set) fullShare f

/-- The scale's buffer as the slice the program loads it by. -/
abbrev gvM : Memref sig .tc .vmem S1x512 .f32 := (Memref.whole cc0_scratch9).slice (Rect.unit (s := S1x512) ![0, 0] S1x512.size inb_S1x512_S1x512_0_0) (fun _ => rfl)
theorem gv_sq (f : S1x512.Idx → Elt F .f32) : (at_ gM c fullShare f : sProp 𝕄) = at_ gvM c fullShare f :=
  at_squeeze (M := gvM) squeezes_S1x512_S512 c fullShare f
theorem ld_gv : ((Memref.whole cc0_scratch9).access (Rect.unit (s := S1x512) ![0, 0] S1x512.size inb_S1x512_S1x512_0_0)).read (Elt F) (gvW m c) = gvW m c :=
  ld_whole2 cc0_scratch9 rfl zero2 _ _

/-- The four chunks of a plane that came, as the plane. -/
theorem rcv_plane0 : iprop(rcvPay m 1 0 c ∗ rcvPay m 1 1 c ∗ rcvPay m 1 2 c ∗ rcvPay m 1 3 c) = (at_ ((Memref.whole cc0_scratch8).slice (pln 0) (fun _ => rfl)) c fullShare (rxW m c) : sProp 𝕄) :=
  (at_rxc4 (Memref.whole cc0_scratch8) c fullShare (rxW m c) 0).symm
theorem rcv_plane1 : iprop(rcvPay m 2 0 c ∗ rcvPay m 2 1 c ∗ rcvPay m 2 2 c ∗ rcvPay m 2 3 c) = (at_ ((Memref.whole cc0_scratch8).slice (pln 1) (fun _ => rfl)) c fullShare (rxW m c) : sProp 𝕄) :=
  (at_rxc4 (Memref.whole cc0_scratch8) c fullShare (rxW m c) 1).symm
theorem rcv_plane2 : iprop(rcvPay m 3 0 c ∗ rcvPay m 3 1 c ∗ rcvPay m 3 2 c ∗ rcvPay m 3 3 c) = (at_ ((Memref.whole cc0_scratch8).slice (pln 2) (fun _ => rfl)) c fullShare (rxW m c) : sProp 𝕄) :=
  (at_rxc4 (Memref.whole cc0_scratch8) c fullShare (rxW m c) 2).symm

/-- The halves of the partial rows' buffer, rejoined. -/
theorem ps_halves (f : f32Q F) : iprop(at_ (phM 0) c fullShare f ∗ at_ (phM 1) c fullShare f) = (at_ (Memref.whole cc0_scratch2) c fullShare f : sProp 𝕄) :=
  (at_hlf2 (Memref.whole cc0_scratch2) c fullShare f).symm

theorem rcv_cm (k : Fin 4) : rcvPay m 0 k c = at_ (cmM k) c fullShare (cmW m c) := rfl

theorem wr_whole (b : Ref sig .tc) {o : Fin b.ty.shape.rank → ℕ} (ho : o = fun _ => 0) (inb) (f w g : b.ty.Contents (Elt F)) (h : w = g) :
    ((Memref.whole b).access (Rect.unit o b.ty.shape.size inb) : View sig .tc _ _ _).write (Elt F) f w Finset.univ = g :=
  (Memref.write_access_unit_zero_univ _ b ho inb f w).trans h

end Cert.KernelIdeal.NormRun

end
-- ==== Proof.BodyA.lean ====
/-
The parts of the kernel's body: the loads, the words to the neighbours, and the partial rows.

Each lemma takes what its part uses and gives back what it leaves, at contents the protocol names.
-/
module

public import proofs.«01_k».proof.Proof.Kit

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (K : Dev nD × Fin 35 → ℕ) (c : Dev nD) (qs : Fin 3 → PosShare TreeShare)

theorem part1 (Q) :
    ⊢ iprop(at_ (sPM c 0) c (qs 0) (V m c main_arg0) -∗ (∃ f, at_ (phM 0) c fullShare f) -∗ semVal ((c : Thread nD τ), .dma (lsem 4)) 0 -∗

        (∀ r, ⌜r.1 = c⌝ -∗ Fly c (lsem 4) (crOf (phM 0)) iprop(at_ (phM 0) c fullShare (psW m c) ∗ at_ (sPM c 0) c (qs 0) (V m c main_arg0)) -∗ Q r)
        -∗ Wp c (on k0_part1) Q) := by
  simp only [on, k0_part1_eq_skeleton]; unfold k0_part1_skel
  simp only [Prog.lift, Prog.bind_op, Prog.bind_ret, Prog.pure_eq_ret, wp_deviceId]
  iintro HP0 Hph0 HZL4 Hk
  iapply (cur3 (st_copyM (src := (sPM c 0)) (dst := (phM 0)) (sm := lsem 4) c (qs 0) (V m c main_arg0) (psW m c) (View.dmaCredit_pos _ (by decide)) (rd_sP m c 0))) $$ HP0 Hph0 HZL4
  iintro HFL4
  iapply wp_done
  iapply Hk $$ %_ %rfl HFL4

theorem part2 (v2 v5 v8 v14 v15 : BitVec 32) (Q) :
    ⊢ iprop(recs m K -∗ at_ (sPM c 1) c (qs 1) (V m c main_arg0) -∗ (∃ f, at_ (phM 1) c fullShare f) -∗ semVal ((c : Thread nD τ), .dma (lsem 5)) 0 -∗
        at_ (sQM c) c (qs 2) (V m c main_arg0) -∗ (∃ f, at_ (Memref.whole cc0_scratch4) c fullShare f) -∗ semVal ((c : Thread nD τ), .dma (lsem 1)) 0 -∗
        at_ (sRM c) c fullShare (V m c main_arg1) -∗ (∃ f, at_ (Memref.whole cc0_scratch5) c fullShare f) -∗ semVal ((c : Thread nD τ), .dma (lsem 2)) 0 -∗
        at_ (Memref.whole main_arg2) c fullShare (V m c main_arg2) -∗ (∃ f, at_ gM c fullShare f) -∗ semVal ((c : Thread nD τ), .dma (lsem 3)) 0 -∗
        ow c 0 -∗ dutyTok ER (rdyC 0 (nb (Fin.succ 0) c)) 0 () -∗ rdyPay (F := F) 0 (nb (Fin.succ 0) c) -∗
        dutyTok ER (rdyC 1 (nb (Fin.succ 1) c)) 0 () -∗ rdyPay (F := F) 1 (nb (Fin.succ 1) c) -∗
        (∀ r, ⌜r.1 = SemArray.scalar (rdy 0)⌝ -∗ Fly c (lsem 5) (crOf (phM 1)) iprop(at_ (phM 1) c fullShare (psW m c) ∗ at_ (sPM c 1) c (qs 1) (V m c main_arg0)) -∗ Fly c (lsem 1) (crOf (Memref.whole cc0_scratch4)) iprop(at_ (Memref.whole cc0_scratch4) c fullShare (pmW m c) ∗ at_ (sQM c) c (qs 2) (V m c main_arg0)) -∗ Fly c (lsem 2) (crOf (Memref.whole cc0_scratch5)) iprop(at_ (Memref.whole cc0_scratch5) c fullShare (rqW m c) ∗ at_ (sRM c) c fullShare (V m c main_arg1)) -∗
            Fly c (lsem 3) (crOf gM) iprop(at_ gM c fullShare (gvW m c) ∗ at_ (Memref.whole main_arg2) c fullShare (V m c main_arg2)) -∗ ow c 2 -∗ Q r)
        -∗ Wp c (on k0_part2 c v2 v5 v8 v14 v15) Q) := by
  simp only [on, k0_part2_eq_skeleton]; unfold k0_part2_skel
  simp only [semSignalWord, semWaitWord, Prog.lift, Prog.bind_op, Prog.bind_ret, Prog.pure_eq_ret]
  iintro #HR HP1 Hph1 HZL5 HQ Hpm HZL1 HR1 Hrq HZL2 HG Hgv HZL3 HO HTY0 HRP0 HTY1 HRP1 Hk
  iapply (cur3 (st_copyM (src := (sPM c 1)) (dst := (phM 1)) (sm := lsem 5) c (qs 1) (V m c main_arg0) (psW m c) (View.dmaCredit_pos _ (by decide)) (rd_sP m c 1))) $$ HP1 Hph1 HZL5
  iintro HFL5
  iapply (cur3 (st_copyM (src := (sQM c)) (dst := (Memref.whole cc0_scratch4)) (sm := lsem 1) c (qs 2) (V m c main_arg0) (pmW m c) (View.dmaCredit_pos _ (by decide)) (rd_sQ m c))) $$ HQ Hpm HZL1
  iintro HFL1
  iapply (cur3 (st_copyM (src := (sRM c)) (dst := (Memref.whole cc0_scratch5)) (sm := lsem 2) c fullShare (V m c main_arg1) (rqW m c) (View.dmaCredit_pos _ (by decide)) (rd_sR m c))) $$ HR1 Hrq HZL2
  iintro HFL2
  iapply (cur3 (st_copyM (src := (Memref.whole main_arg2)) (dst := gM) (sm := lsem 3) c fullShare (V m c main_arg2) (gvW m c) (View.dmaCredit_pos _ (by decide)) (rd_g m c))) $$ HG Hgv HZL3
  iintro HFL3
  iapply (cur4 (st_signal m K c 0 0 rfl)) $$ HR HO HTY0 HRP0
  iintro HO
  iapply (cur4 (st_signal m K c 1 1 rfl)) $$ HR HO HTY1 HRP1
  iintro HO
  iapply wp_done
  iapply Hk $$ %_ %rfl HFL5 HFL1 HFL2 HFL3 HO

theorem part3 (v2 v5 v8 v14 v16 v61 c0 : BitVec 32) (Q) :
    ⊢ iprop(recs m K -∗ ow c 2 -∗ dutyTok ER (rdyC 2 (nb (Fin.succ 2) c)) 0 () -∗ rdyPay (F := F) 2 (nb (Fin.succ 2) c) -∗
        cred (tallyAt (rdyC 0 c) () 1) -∗ atPos ER (rdyC 0 c) 0 ∅ 0 -∗ Fly c (lsem 4) (crOf (phM 0)) iprop(at_ (phM 0) c fullShare (psW m c) ∗ at_ (sPM c 0) c (qs 0) (V m c main_arg0)) -∗
        (∃ f, at_ ((Memref.whole cc0_scratch3).slice (hlf 0) (fun _ => rfl)) c fullShare f) -∗ dutyTok ER (sndC 0 0 c) 0 () -∗ dutyTok ER (rcvC 0 0 (nb 0 c)) 0 () -∗

        (ow c 4 -∗ semVal (rdyC 0 c) 0 -∗ slot (F := F) (cmM 1) 0 1 (nb 0 c) -∗
            slot (F := F) (cmM 2) 0 2 (nb 0 c) -∗ slot (F := F) (cmM 3) 0 3 (nb 0 c) -∗ slot (F := F) (rxM 0 0) 1 0 (nb 1 c) -∗
            slot (F := F) (rxM 0 1) 1 1 (nb 1 c) -∗ slot (F := F) (rxM 0 2) 1 2 (nb 1 c) -∗ slot (F := F) (rxM 0 3) 1 3 (nb 1 c) -∗
            at_ (phM 0) c fullShare (psW m c) -∗ at_ (sPM c 0) c (qs 0) (V m c main_arg0) -∗ semVal ((c : Thread nD τ), .dma (lsem 4)) 0 -∗
            at_ (psM 1) c fullShare (psbW m c) -∗ cred (tallyAt (sndC 0 0 c) () N) -∗ Q ⟨⟩)
        -∗ Wp c (on k0_part3 c v2 v5 v8 v14 v16 (SemArray.scalar (rdy 0)) v61 c0) Q) := by
  simp only [on, k0_part3_eq_skeleton]; unfold k0_part3_skel
  simp only [semSignalWord, semWaitWord, Prog.lift, Prog.bind_op, Prog.bind_ret, Prog.pure_eq_ret]
  iintro #HR HO HTY2 HRP2 HCY0 HAY0 HFL4 Hpb0 HTS00 HTR00 Hk
  iapply (cur4 (st_signal m K c 2 2 rfl)) $$ HR HO HTY2 HRP2
  iintro HO
  iapply (cur4 (st_waitR m K c 0 3 (above_one c))) $$ HR HCY0 HO HAY0
  iintro ⟨HO, HZY0, HP0x⟩
  ihave HP0x := (Entails.of_eq (rdyPay_0 c)) $$ HP0x
  icases HP0x with ⟨⟨HSL00, HSL01, HSL02, HSL03⟩, ⟨HSL10, HSL11, HSL12, HSL13⟩⟩
  iapply (cur3 (st_waitL (K := K) m c 3 (above_loc c 3 (by decide)) (sm := lsem 4) (by decide) (dstw := (phM 0)) (M := crOf (phM 0)) rfl)) $$ HR HFL4 HO
  iintro ⟨⟨Hph0, HP0⟩, HZL4, HO⟩
  iapply (st_load (M := (Memref.whole cc0_scratch2)) (r := hlf 0) c (fun _ => rfl) fullShare (psW m c) _ (rfl)) $$ Hph0
  iintro Hph0
  icases Hpb0 with ⟨%fHpb0, Hpb0⟩
  iapply (st_load (M := (Memref.whole cc0_scratch3)) (r := hlf 0) c (fun _ => rfl) fullShare (fHpb0) _ (rfl)) $$ Hpb0
  iintro Hpb0
  iapply (st_store (M := (Memref.whole cc0_scratch3)) (r := hlf 0) c (fun _ => rfl) (fHpb0) (psbW m c) (wr_ps1 m c)) $$ Hpb0
  iintro Hpb0
  ihave Hpb0 := (Entails.of_eq (psb_hlf0 c (psbW m c))) $$ Hpb0
  icases Hpb0 with ⟨Hps0, Hps1⟩
  iapply (cur6 (st_send (src := psM 0) (dst := cmM 0) m K c 0 0 3 _ (dev4_eq c) (psbW m c) (cmW m (nb 0 c)) fullShare (rd_cm m c 0) rfl rfl rfl rfl)) $$ HR Hps0 HSL00 HO HTS00 HTR00
  iintro ⟨HCS00, HO⟩
  iapply wp_done
  iapply Hk $$ HO HZY0 HSL01 HSL02 HSL03 HSL10 HSL11 HSL12 HSL13 Hph0 HP0 HZL4 Hps1 HCS00

theorem part4 (v2 v5 v14 : BitVec 32) (Q) :
    ⊢ iprop(recs m K -∗ at_ (psM 1) c fullShare (psbW m c) -∗ slot (F := F) (cmM 1) 0 1 (nb 0 c) -∗ ow c 4 -∗
        dutyTok ER (sndC 0 1 c) 0 () -∗ dutyTok ER (rcvC 0 1 (nb 0 c)) 0 () -∗ Fly c (lsem 5) (crOf (phM 1)) iprop(at_ (phM 1) c fullShare (psW m c) ∗ at_ (sPM c 1) c (qs 1) (V m c main_arg0)) -∗
        (∃ f, at_ ((Memref.whole cc0_scratch3).slice (hlf 1) (fun _ => rfl)) c fullShare f) -∗
        (ow c 5 -∗ cred (tallyAt (sndC 0 1 c) () N) -∗ at_ (phM 1) c fullShare (psW m c) -∗
            at_ (sPM c 1) c (qs 1) (V m c main_arg0) -∗ semVal ((c : Thread nD τ), .dma (lsem 5)) 0 -∗ at_ (psM 2) c fullShare (psbW m c) -∗
            at_ (psM 3) c fullShare (psbW m c) -∗ Q ⟨⟩)
        -∗ Wp c (on k0_part4 c v2 v5 v14) Q) := by
  simp only [on, k0_part4_eq_skeleton]; unfold k0_part4_skel
  simp only [Prog.lift, Prog.bind_op, Prog.bind_ret, Prog.pure_eq_ret]
  iintro #HR Hps1 HSL01 HO HTS01 HTR01 HFL5 Hpb1 Hk
  iapply (cur6 (st_send (src := psM 1) (dst := cmM 1) m K c 0 1 4 _ (dev5_eq c) (psbW m c) (cmW m (nb 0 c)) fullShare (rd_cm m c 1) rfl rfl rfl rfl)) $$ HR Hps1 HSL01 HO HTS01 HTR01
  iintro ⟨HCS01, HO⟩
  iapply (cur3 (st_waitL (K := K) m c 5 (above_loc c 5 (by decide)) (sm := lsem 5) (by decide) (dstw := (phM 1)) (M := crOf (phM 1)) rfl)) $$ HR HFL5 HO
  iintro ⟨⟨Hph1, HP1⟩, HZL5, HO⟩
  iapply (st_load (M := (Memref.whole cc0_scratch2)) (r := hlf 1) c (fun _ => rfl) fullShare (psW m c) _ (rfl)) $$ Hph1
  iintro Hph1
  icases Hpb1 with ⟨%fHpb1, Hpb1⟩
  iapply (st_load (M := (Memref.whole cc0_scratch3)) (r := hlf 1) c (fun _ => rfl) fullShare (fHpb1) _ (rfl)) $$ Hpb1
  iintro Hpb1
  iapply (st_store (M := (Memref.whole cc0_scratch3)) (r := hlf 1) c (fun _ => rfl) (fHpb1) (psbW m c) (wr_ps2 m c)) $$ Hpb1
  iintro Hpb1
  ihave Hpb1 := (Entails.of_eq (psb_hlf1 c (psbW m c))) $$ Hpb1
  icases Hpb1 with ⟨Hps2, Hps3⟩
  iapply wp_done
  iapply Hk $$ HO HCS01 Hph1 HP1 HZL5 Hps2 Hps3

theorem part5 (v2 v5 v14 : BitVec 32) (Q) :
    ⊢ iprop(recs m K -∗ at_ (psM 2) c fullShare (psbW m c) -∗ slot (F := F) (cmM 2) 0 2 (nb 0 c) -∗ ow c 5 -∗
        dutyTok ER (sndC 0 2 c) 0 () -∗ dutyTok ER (rcvC 0 2 (nb 0 c)) 0 () -∗ at_ (psM 3) c fullShare (psbW m c) -∗
        slot (F := F) (cmM 3) 0 3 (nb 0 c) -∗ dutyTok ER (sndC 0 3 c) 0 () -∗ dutyTok ER (rcvC 0 3 (nb 0 c)) 0 () -∗
        Fly c (lsem 1) (crOf (Memref.whole cc0_scratch4)) iprop(at_ (Memref.whole cc0_scratch4) c fullShare (pmW m c) ∗ at_ (sQM c) c (qs 2) (V m c main_arg0)) -∗ Fly c (lsem 2) (crOf (Memref.whole cc0_scratch5)) iprop(at_ (Memref.whole cc0_scratch5) c fullShare (rqW m c) ∗ at_ (sRM c) c fullShare (V m c main_arg1)) -∗ Fly c (lsem 3) (crOf gM) iprop(at_ gM c fullShare (gvW m c) ∗ at_ (Memref.whole main_arg2) c fullShare (V m c main_arg2)) -∗

        (ow c 7 -∗ cred (tallyAt (sndC 0 2 c) () N) -∗ cred (tallyAt (sndC 0 3 c) () N) -∗
            at_ (Memref.whole cc0_scratch4) c fullShare (pmW m c) -∗ at_ (sQM c) c (qs 2) (V m c main_arg0) -∗ semVal ((c : Thread nD τ), .dma (lsem 1)) 0 -∗
            at_ (Memref.whole cc0_scratch5) c fullShare (rqW m c) -∗ at_ (sRM c) c fullShare (V m c main_arg1) -∗ semVal ((c : Thread nD τ), .dma (lsem 2)) 0 -∗
            at_ gM c fullShare (gvW m c) -∗ at_ (Memref.whole main_arg2) c fullShare (V m c main_arg2) -∗ semVal ((c : Thread nD τ), .dma (lsem 3)) 0 -∗
            Q (pmW m c))
        -∗ Wp c (on k0_part5 c v2 v5 v14) Q) := by
  simp only [on, k0_part5_eq_skeleton]; unfold k0_part5_skel
  simp only [Prog.lift, Prog.bind_op, Prog.bind_ret, Prog.pure_eq_ret]
  iintro #HR Hps2 HSL02 HO HTS02 HTR02 Hps3 HSL03 HTS03 HTR03 HFL1 HFL2 HFL3 Hk
  iapply (cur6 (st_send (src := psM 2) (dst := cmM 2) m K c 0 2 5 _ (dev6_eq c) (psbW m c) (cmW m (nb 0 c)) fullShare (rd_cm m c 2) rfl rfl rfl rfl)) $$ HR Hps2 HSL02 HO HTS02 HTR02
  iintro ⟨HCS02, HO⟩
  iapply (cur6 (st_send (src := psM 3) (dst := cmM 3) m K c 0 3 6 _ (dev7_eq c) (psbW m c) (cmW m (nb 0 c)) fullShare (rd_cm m c 3) rfl rfl rfl rfl)) $$ HR Hps3 HSL03 HO HTS03 HTR03
  iintro ⟨HCS03, HO⟩
  iapply (cur3 (st_waitL (K := K) m c 7 (above_loc c 7 (by decide)) (sm := lsem 1) (by decide) (dstw := (Memref.whole cc0_scratch4)) (M := crOf (Memref.whole cc0_scratch4)) rfl)) $$ HR HFL1 HO
  iintro ⟨⟨Hpm, HQ⟩, HZL1, HO⟩
  iapply (cur3 (st_waitL (K := K) m c 7 (above_loc c 7 (by decide)) (sm := lsem 2) (by decide) (dstw := (Memref.whole cc0_scratch5)) (M := crOf (Memref.whole cc0_scratch5)) rfl)) $$ HR HFL2 HO
  iintro ⟨⟨Hrq, HR1⟩, HZL2, HO⟩
  iapply (cur3 (st_waitL (K := K) m c 7 (above_loc c 7 (by decide)) (sm := lsem 3) (by decide) (dstw := gM) (M := crOf gM) rfl)) $$ HR HFL3 HO
  iintro ⟨⟨Hgv, HG⟩, HZL3, HO⟩
  iapply (st_loadW (M := (Memref.whole cc0_scratch4)) c fullShare (pmW m c) (pmW m c) (ld_whole2 cc0_scratch4 rfl zero2 _ _)) $$ Hpm
  iintro Hpm
  iapply wp_done
  iapply Hk $$ HO HCS02 HCS03 Hpm HQ HZL1 Hrq HR1 HZL2 Hgv HG HZL3

theorem part6 (v2 v5 v14 : BitVec 32) (Q) :
    ⊢ iprop(recs m K -∗ at_ (Memref.whole cc0_scratch5) c fullShare (rqW m c) -∗ (∃ f, at_ (Memref.whole cc0_scratch1) c fullShare f) -∗ cred (tallyAt (rcvC 0 0 c) () N) -∗
        ow c 7 -∗ atPos ER (rcvC 0 0 c) 0 ∅ 0 -∗ cred (tallyAt (rdyC 1 c) () 1) -∗
        atPos ER (rdyC 1 c) 0 ∅ 0 -∗ cred (tallyAt (rdyC 2 c) () 1) -∗ atPos ER (rdyC 2 c) 0 ∅ 0 -∗

        (at_ (Memref.whole cc0_scratch5) c fullShare (rqW m c) -∗ at_ (Memref.whole cc0_scratch1) c fullShare (acW m c) -∗ ow c 7 -∗
            semVal (rcvC 0 0 c) 0 -∗ at_ (cmM 0) c fullShare (cmW m c) -∗ semVal (rdyC 1 c) 0 -∗
            slot (F := F) (rxM 1 0) 2 0 (nb 2 c) -∗ slot (F := F) (rxM 1 1) 2 1 (nb 2 c) -∗ slot (F := F) (rxM 1 2) 2 2 (nb 2 c) -∗
            slot (F := F) (rxM 1 3) 2 3 (nb 2 c) -∗ semVal (rdyC 2 c) 0 -∗ slot (F := F) (rxM 2 0) 3 0 (nb 3 c) -∗
            slot (F := F) (rxM 2 1) 3 1 (nb 3 c) -∗ slot (F := F) (rxM 2 2) 3 2 (nb 3 c) -∗ slot (F := F) (rxM 2 3) 3 3 (nb 3 c) -∗
            Q ⟨k0_pay4 (ckRead (acW m c) 0) (ckRead (cmW m c) 0), k0_pay5 (ckRead (acW m c) 0) (ckRead (cmW m c) 0), k0_pay6⟩)
        -∗ Wp c (on k0_part6 v2 v5 v14 (pmW m c)) Q) := by
  simp only [on, k0_part6_eq_skeleton]; unfold k0_part6_skel
  simp only [semSignalWord, semWaitWord, Prog.lift, Prog.bind_op, Prog.bind_ret, Prog.pure_eq_ret]
  iintro #HR Hrq Hac HCV00 HO HAV00 HCY1 HAY1 HCY2 HAY2 Hk
  iapply (st_loadW (M := (Memref.whole cc0_scratch5)) c fullShare (rqW m c) (rqW m c) (ld_whole2 cc0_scratch5 rfl zero2 _ _)) $$ Hrq
  iintro Hrq
  icases Hac with ⟨%fHac, Hac⟩
  iapply (st_loadW (M := (Memref.whole cc0_scratch1)) c fullShare (fHac) (_) (rfl)) $$ Hac
  iintro Hac
  iapply (st_storeW (M := (Memref.whole cc0_scratch1)) c (fHac) (acW m c) (wr_whole cc0_scratch1 zero2 _ _ _ _ (wr_ac m c))) $$ Hac
  iintro Hac
  iapply (cur4 (st_waitV (dstw := cmM 0) m K c 0 0 7 (by exact above_two c 7 (by decide) (by decide)) rfl)) $$ HR HCV00 HO HAV00
  iintro ⟨HO, HZV00, HRV00⟩
  iapply (cur4 (st_waitR m K c 1 7 (above_wait c))) $$ HR HCY1 HO HAY1
  iintro ⟨HO, HZY1, HP1x⟩
  ihave HP1x := (Entails.of_eq (rdyPay_1 c)) $$ HP1x
  icases HP1x with ⟨HSL20, HSL21, HSL22, HSL23⟩
  iapply (cur4 (st_waitR m K c 2 7 (above_wait c))) $$ HR HCY2 HO HAY2
  iintro ⟨HO, HZY2, HP2x⟩
  ihave HP2x := (Entails.of_eq (rdyPay_2 c)) $$ HP2x
  icases HP2x with ⟨HSL30, HSL31, HSL32, HSL33⟩
  iapply (st_loadW (M := (Memref.whole cc0_scratch1)) (r := chk 0) c fullShare (acW m c) (ckRead (acW m c) 0) (rfl)) $$ Hac
  iintro Hac
  ihave HRV00 := (Entails.of_eq (rcv_cm m c 0)) $$ HRV00
  iapply (st_load (M := (Memref.whole cc0_scratch0)) (r := chk 0) c (fun _ => rfl) fullShare (cmW m c) (ckRead (cmW m c) 0) (rfl)) $$ HRV00
  iintro HRV00
  iapply wp_done
  iapply Hk $$ Hrq Hac HO HZV00 HRV00 HZY1 HSL20 HSL21 HSL22 HSL23 HZY2 HSL30 HSL31 HSL32 HSL33

end Cert.KernelIdeal.NormRun

end
-- ==== Proof.BodyB.lean ====
/-
The parts of the kernel's body: the normalised rows, made and sent chunk by chunk.

Each lemma takes what its part uses and gives back what it leaves, at contents the protocol names.
-/
module

public import proofs.«01_k».proof.Proof.Kit

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (K : Dev nD × Fin 35 → ℕ) (c : Dev nD) (qs : Fin 3 → PosShare TreeShare)

theorem part7 (v2 v5 v13 v14 : BitVec 32) (Q) :
    ⊢ iprop(recs m K -∗ at_ gM c fullShare (gvW m c) -∗ (∃ f, at_ (oqM 0) c fullShare f) -∗ (∃ f, at_ (nbM 0) c fullShare f) -∗
        (∃ f, at_ (outM (w4 c 0) (fun _ => rfl)) c fullShare f) -∗ semVal ((c : Thread nD τ), .dma (lsem 6)) 0 -∗ slot (F := F) (rxM 0 0) 1 0 (nb 1 c) -∗
        ow c 7 -∗ dutyTok ER (sndC 1 0 c) 0 () -∗ dutyTok ER (rcvC 1 0 (nb 1 c)) 0 () -∗

        (at_ gvM c fullShare (gvW m c) -∗ at_ (nbM 0) c (shr 2) (nbW m c) -∗ at_ (nbM 0) c (shr 3) (nbW m c) -∗
            Fly c (lsem 6) (crOf (outM (w4 c 0) (fun _ => rfl))) iprop(at_ (outM (w4 c 0) (fun _ => rfl)) c fullShare (outW m c) ∗ at_ (oqM 0) c fullShare (nfW m c)) -∗ ow c 8 -∗ cred (tallyAt (sndC 1 0 c) () N) -∗
            Q ⟨⟩)
        -∗ Wp c (on k0_part7 c v2 v5 v13 v14 (k0_pay4 (ckRead (acW m c) 0) (ckRead (cmW m c) 0)) (k0_pay5 (ckRead (acW m c) 0) (ckRead (cmW m c) 0)) k0_pay6) Q) := by
  simp only [on, k0_part7_eq_skeleton]; unfold k0_part7_skel
  simp only [Prog.lift, Prog.bind_op, Prog.bind_ret, Prog.pure_eq_ret]
  iintro #HR Hgv Hoq0 Hnb0 Ho40 HZL6 HSL10 HO HTS10 HTR10 Hk
  ihave Hgv := (Entails.of_eq (gv_sq c (gvW m c))) $$ Hgv
  iapply (st_load (M := (Memref.whole cc0_scratch9)) (r := Rect.unit (s := S1x512) ![0, 0] S1x512.size inb_S1x512_S1x512_0_0) c (fun _ => rfl) fullShare (gvW m c) (gvW m c) (ld_gv m c)) $$ Hgv
  iintro Hgv
  icases Hoq0 with ⟨%fHoq0, Hoq0⟩
  iapply (st_load (M := (Memref.whole cc0_scratch6)) (r := chk 0) c (fun _ => rfl) fullShare (fHoq0) _ (rfl)) $$ Hoq0
  iintro Hoq0
  iapply (st_store (M := (Memref.whole cc0_scratch6)) (r := chk 0) c (fun _ => rfl) (fHoq0) (nfW m c) ((wr_nf m c 0).trans (pay8_eq _ _ _).symm)) $$ Hoq0
  iintro Hoq0
  icases Hnb0 with ⟨%fHnb0, Hnb0⟩
  iapply (st_load (M := (Memref.whole cc0_scratch7)) (r := chk 0) c (fun _ => rfl) fullShare (fHnb0) _ (rfl)) $$ Hnb0
  iintro Hnb0
  iapply (st_store (M := (Memref.whole cc0_scratch7)) (r := chk 0) c (fun _ => rfl) (fHnb0) (nbW m c) ((wr_nb m c 0).trans (pay9_eq _ _ _).symm)) $$ Hnb0
  iintro Hnb0
  ihave Hnb0 := (nb_thirds c 0 (nbW m c)).1 $$ Hnb0
  icases Hnb0 with ⟨HNS10, HNS20, HNS30⟩
  iapply (cur3 (st_copyM (src := (oqM 0)) (dst := (outM (w4 c 0) (fun _ => rfl))) (sm := lsem 6) c fullShare (nfW m c) (outW m c) (View.dmaCredit_pos _ (by decide)) (rd_o4 m c 0))) $$ Hoq0 Ho40 HZL6
  iintro HFL6
  iapply (cur6 (st_send (src := nbM 0) (dst := rxM 0 0) m K c 1 0 7 _ (dev8_eq c) (nbW m c) (rxW m (nb 1 c)) (shr 1) (rd_rx m c 0 0) rfl rfl rfl rfl)) $$ HR HNS10 HSL10 HO HTS10 HTR10
  iintro ⟨HCS10, HO⟩
  iapply wp_done
  iapply Hk $$ Hgv HNS20 HNS30 HFL6 HO HCS10

theorem part8 (v2 v5 v8 v15 v16 : BitVec 32) (Q) :
    ⊢ iprop(recs m K -∗ at_ (nbM 0) c (shr 2) (nbW m c) -∗ slot (F := F) (rxM 1 0) 2 0 (nb 2 c) -∗ ow c 8 -∗
        dutyTok ER (sndC 2 0 c) 0 () -∗ dutyTok ER (rcvC 2 0 (nb 2 c)) 0 () -∗ at_ (nbM 0) c (shr 3) (nbW m c) -∗
        slot (F := F) (rxM 2 0) 3 0 (nb 3 c) -∗ dutyTok ER (sndC 3 0 c) 0 () -∗ dutyTok ER (rcvC 3 0 (nb 3 c)) 0 () -∗

        (∀ v, ow c 10 -∗ cred (tallyAt (sndC 2 0 c) () N) -∗ cred (tallyAt (sndC 3 0 c) () N) -∗
            Q v)
        -∗ Wp c (on k0_part8 c v2 v5 v8 v15 v16) Q) := by
  simp only [on, k0_part8_eq_skeleton]; unfold k0_part8_skel
  simp only [Prog.lift, Prog.bind_op, Prog.bind_ret, Prog.pure_eq_ret]
  iintro #HR HNS20 HSL20 HO HTS20 HTR20 HNS30 HSL30 HTS30 HTR30 Hk
  iapply (cur6 (st_send (src := nbM 0) (dst := rxM 1 0) m K c 2 0 8 _ (dev9_eq c) (nbW m c) (rxW m (nb 2 c)) (shr 2) (rd_rx m c 1 0) rfl rfl rfl rfl)) $$ HR HNS20 HSL20 HO HTS20 HTR20
  iintro ⟨HCS20, HO⟩
  iapply (cur6 (st_send (src := nbM 0) (dst := rxM 2 0) m K c 3 0 9 _ (dev10_eq c) (nbW m c) (rxW m (nb 3 c)) (shr 3) (rd_rx m c 2 0) rfl rfl rfl rfl)) $$ HR HNS30 HSL30 HO HTS30 HTR30
  iintro ⟨HCS30, HO⟩
  iapply wp_done
  iapply Hk $$ %_ HO HCS20 HCS30

theorem part9 (v5 v13 v14 v234 : BitVec 32) (Q) :
    ⊢ iprop(recs m K -∗ cred (tallyAt (rcvC 0 1 c) () N) -∗ ow c 10 -∗ atPos ER (rcvC 0 1 c) 0 ∅ 0 -∗
        at_ (Memref.whole cc0_scratch1) c fullShare (acW m c) -∗ at_ gvM c fullShare (gvW m c) -∗ (∃ f, at_ (oqM 1) c fullShare f) -∗
        (∃ f, at_ (nbM 1) c fullShare f) -∗
        (ow c 10 -∗ semVal (rcvC 0 1 c) 0 -∗ at_ (cmM 1) c fullShare (cmW m c) -∗
            at_ (Memref.whole cc0_scratch1) c fullShare (acW m c) -∗ at_ gvM c fullShare (gvW m c) -∗ at_ (oqM 1) c fullShare (nfW m c) -∗
            at_ (nbM 1) c (shr 1) (nbW m c) -∗ at_ (nbM 1) c (shr 2) (nbW m c) -∗ at_ (nbM 1) c (shr 3) (nbW m c) -∗
            Q ⟨⟩)
        -∗ Wp c (on k0_part9 v5 v13 v14 v234) Q) := by
  simp only [on, k0_part9_eq_skeleton]; unfold k0_part9_skel
  simp only [Prog.lift, Prog.bind_op, Prog.bind_ret, Prog.pure_eq_ret]
  iintro #HR HCV01 HO HAV01 Hac Hgv Hoq1 Hnb1 Hk
  iapply (cur4 (st_waitV (dstw := cmM 1) m K c 0 1 10 (by exact above_two c 10 (by decide) (by decide)) rfl)) $$ HR HCV01 HO HAV01
  iintro ⟨HO, HZV01, HRV01⟩
  iapply (st_loadW (M := (Memref.whole cc0_scratch1)) (r := chk 1) c fullShare (acW m c) (ckRead (acW m c) 1) (rfl)) $$ Hac
  iintro Hac
  ihave HRV01 := (Entails.of_eq (rcv_cm m c 1)) $$ HRV01
  iapply (st_load (M := (Memref.whole cc0_scratch0)) (r := chk 1) c (fun _ => rfl) fullShare (cmW m c) (ckRead (cmW m c) 1) (rfl)) $$ HRV01
  iintro HRV01
  iapply (st_load (M := (Memref.whole cc0_scratch9)) (r := Rect.unit (s := S1x512) ![0, 0] S1x512.size inb_S1x512_S1x512_0_0) c (fun _ => rfl) fullShare (gvW m c) (gvW m c) (ld_gv m c)) $$ Hgv
  iintro Hgv
  icases Hoq1 with ⟨%fHoq1, Hoq1⟩
  iapply (st_load (M := (Memref.whole cc0_scratch6)) (r := chk 1) c (fun _ => rfl) fullShare (fHoq1) _ (rfl)) $$ Hoq1
  iintro Hoq1
  iapply (st_store (M := (Memref.whole cc0_scratch6)) (r := chk 1) c (fun _ => rfl) (fHoq1) (nfW m c) ((wr_nf m c 1).trans rfl)) $$ Hoq1
  iintro Hoq1
  icases Hnb1 with ⟨%fHnb1, Hnb1⟩
  iapply (st_load (M := (Memref.whole cc0_scratch7)) (r := chk 1) c (fun _ => rfl) fullShare (fHnb1) _ (rfl)) $$ Hnb1
  iintro Hnb1
  iapply (st_store (M := (Memref.whole cc0_scratch7)) (r := chk 1) c (fun _ => rfl) (fHnb1) (nbW m c) ((wr_nb m c 1).trans (pay12_eq _ _ _).symm)) $$ Hnb1
  iintro Hnb1
  ihave Hnb1 := (nb_thirds c 1 (nbW m c)).1 $$ Hnb1
  icases Hnb1 with ⟨HNS11, HNS21, HNS31⟩
  iapply wp_done
  iapply Hk $$ HO HZV01 HRV01 Hac Hgv Hoq1 HNS11 HNS21 HNS31

theorem part10 (v2 v5 v8 v14 v15 : BitVec 32) (Q) :
    ⊢ iprop(recs m K -∗ at_ (oqM 1) c fullShare (nfW m c) -∗ (∃ f, at_ (outM (w4 c 1) (fun _ => rfl)) c fullShare f) -∗ semVal ((c : Thread nD τ), .dma (lsem 7)) 0 -∗
        at_ (nbM 1) c (shr 1) (nbW m c) -∗ slot (F := F) (rxM 0 1) 1 1 (nb 1 c) -∗ ow c 10 -∗
        dutyTok ER (sndC 1 1 c) 0 () -∗ dutyTok ER (rcvC 1 1 (nb 1 c)) 0 () -∗
        (Fly c (lsem 7) (crOf (outM (w4 c 1) (fun _ => rfl))) iprop(at_ (outM (w4 c 1) (fun _ => rfl)) c fullShare (outW m c) ∗ at_ (oqM 1) c fullShare (nfW m c)) -∗ ow c 11 -∗ cred (tallyAt (sndC 1 1 c) () N) -∗
            Q ⟨⟩)
        -∗ Wp c (on k0_part10 c v2 v5 v8 v14 v15) Q) := by
  simp only [on, k0_part10_eq_skeleton]; unfold k0_part10_skel
  simp only [Prog.lift, Prog.bind_op, Prog.bind_ret, Prog.pure_eq_ret]
  iintro #HR Hoq1 Ho41 HZL7 HNS11 HSL11 HO HTS11 HTR11 Hk
  iapply (cur3 (st_copyM (src := (oqM 1)) (dst := (outM (w4 c 1) (fun _ => rfl))) (sm := lsem 7) c fullShare (nfW m c) (outW m c) (View.dmaCredit_pos _ (by decide)) (rd_o4 m c 1))) $$ Hoq1 Ho41 HZL7
  iintro HFL7
  iapply (cur6 (st_send (src := nbM 1) (dst := rxM 0 1) m K c 1 1 10 _ (dev11_eq c) (nbW m c) (rxW m (nb 1 c)) (shr 1) (rd_rx m c 0 1) rfl rfl rfl rfl)) $$ HR HNS11 HSL11 HO HTS11 HTR11
  iintro ⟨HCS11, HO⟩
  iapply wp_done
  iapply Hk $$ HFL7 HO HCS11

theorem part11 (v2 v5 v8 v14 v16 : BitVec 32) (Q) :
    ⊢ iprop(recs m K -∗ at_ (nbM 1) c (shr 2) (nbW m c) -∗ slot (F := F) (rxM 1 1) 2 1 (nb 2 c) -∗ ow c 11 -∗
        dutyTok ER (sndC 2 1 c) 0 () -∗ dutyTok ER (rcvC 2 1 (nb 2 c)) 0 () -∗ at_ (nbM 1) c (shr 3) (nbW m c) -∗
        slot (F := F) (rxM 2 1) 3 1 (nb 3 c) -∗ dutyTok ER (sndC 3 1 c) 0 () -∗ dutyTok ER (rcvC 3 1 (nb 3 c)) 0 () -∗
        cred (tallyAt (rcvC 0 2 c) () N) -∗ atPos ER (rcvC 0 2 c) 0 ∅ 0 -∗ at_ (Memref.whole cc0_scratch1) c fullShare (acW m c) -∗

        (ow c 13 -∗ cred (tallyAt (sndC 2 1 c) () N) -∗ cred (tallyAt (sndC 3 1 c) () N) -∗
            semVal (rcvC 0 2 c) 0 -∗ at_ (cmM 2) c fullShare (cmW m c) -∗ at_ (Memref.whole cc0_scratch1) c fullShare (acW m c) -∗
            Q ⟨k0_pay13 (ckRead (acW m c) 2) (ckRead (cmW m c) 2), k0_pay14 (ckRead (acW m c) 2) (ckRead (cmW m c) 2)⟩)
        -∗ Wp c (on k0_part11 c v2 v5 v8 v14 v16) Q) := by
  simp only [on, k0_part11_eq_skeleton]; unfold k0_part11_skel
  simp only [Prog.lift, Prog.bind_op, Prog.bind_ret, Prog.pure_eq_ret]
  iintro #HR HNS21 HSL21 HO HTS21 HTR21 HNS31 HSL31 HTS31 HTR31 HCV02 HAV02 Hac Hk
  iapply (cur6 (st_send (src := nbM 1) (dst := rxM 1 1) m K c 2 1 11 _ (dev12_eq c) (nbW m c) (rxW m (nb 2 c)) (shr 2) (rd_rx m c 1 1) rfl rfl rfl rfl)) $$ HR HNS21 HSL21 HO HTS21 HTR21
  iintro ⟨HCS21, HO⟩
  iapply (cur6 (st_send (src := nbM 1) (dst := rxM 2 1) m K c 3 1 12 _ (dev13_eq c) (nbW m c) (rxW m (nb 3 c)) (shr 3) (rd_rx m c 2 1) rfl rfl rfl rfl)) $$ HR HNS31 HSL31 HO HTS31 HTR31
  iintro ⟨HCS31, HO⟩
  iapply (cur4 (st_waitV (dstw := cmM 2) m K c 0 2 13 (by exact above_two c 13 (by decide) (by decide)) rfl)) $$ HR HCV02 HO HAV02
  iintro ⟨HO, HZV02, HRV02⟩
  iapply (st_loadW (M := (Memref.whole cc0_scratch1)) (r := chk 2) c fullShare (acW m c) (ckRead (acW m c) 2) (rfl)) $$ Hac
  iintro Hac
  ihave HRV02 := (Entails.of_eq (rcv_cm m c 2)) $$ HRV02
  iapply (st_load (M := (Memref.whole cc0_scratch0)) (r := chk 2) c (fun _ => rfl) fullShare (cmW m c) (ckRead (cmW m c) 2) (rfl)) $$ HRV02
  iintro HRV02
  iapply wp_done
  iapply Hk $$ HO HCS21 HCS31 HZV02 HRV02 Hac

theorem part12 (v2 v5 v13 v14 : BitVec 32) (Q) :
    ⊢ iprop(at_ gvM c fullShare (gvW m c) -∗ (∃ f, at_ (oqM 2) c fullShare f) -∗ (∃ f, at_ (nbM 2) c fullShare f) -∗
        (∃ f, at_ (outM (w4 c 2) (fun _ => rfl)) c fullShare f) -∗ semVal ((c : Thread nD τ), .dma (lsem 8)) 0 -∗
        (at_ gvM c fullShare (gvW m c) -∗ at_ (nbM 2) c (shr 1) (nbW m c) -∗ at_ (nbM 2) c (shr 2) (nbW m c) -∗
            at_ (nbM 2) c (shr 3) (nbW m c) -∗ Fly c (lsem 8) (crOf (outM (w4 c 2) (fun _ => rfl))) iprop(at_ (outM (w4 c 2) (fun _ => rfl)) c fullShare (outW m c) ∗ at_ (oqM 2) c fullShare (nfW m c)) -∗ Q ⟨⟩)
        -∗ Wp c (on k0_part12 c v2 v5 v13 v14 (k0_pay13 (ckRead (acW m c) 2) (ckRead (cmW m c) 2)) (k0_pay14 (ckRead (acW m c) 2) (ckRead (cmW m c) 2))) Q) := by
  simp only [on, k0_part12_eq_skeleton]; unfold k0_part12_skel
  simp only [Prog.lift, Prog.bind_op, Prog.bind_ret, Prog.pure_eq_ret]
  iintro Hgv Hoq2 Hnb2 Ho42 HZL8 Hk
  iapply (st_load (M := (Memref.whole cc0_scratch9)) (r := Rect.unit (s := S1x512) ![0, 0] S1x512.size inb_S1x512_S1x512_0_0) c (fun _ => rfl) fullShare (gvW m c) (gvW m c) (ld_gv m c)) $$ Hgv
  iintro Hgv
  icases Hoq2 with ⟨%fHoq2, Hoq2⟩
  iapply (st_load (M := (Memref.whole cc0_scratch6)) (r := chk 2) c (fun _ => rfl) fullShare (fHoq2) _ (rfl)) $$ Hoq2
  iintro Hoq2
  iapply (st_store (M := (Memref.whole cc0_scratch6)) (r := chk 2) c (fun _ => rfl) (fHoq2) (nfW m c) ((wr_nf m c 2).trans (pay16_eq _ _ _).symm)) $$ Hoq2
  iintro Hoq2
  icases Hnb2 with ⟨%fHnb2, Hnb2⟩
  iapply (st_load (M := (Memref.whole cc0_scratch7)) (r := chk 2) c (fun _ => rfl) fullShare (fHnb2) _ (rfl)) $$ Hnb2
  iintro Hnb2
  iapply (st_store (M := (Memref.whole cc0_scratch7)) (r := chk 2) c (fun _ => rfl) (fHnb2) (nbW m c) ((wr_nb m c 2).trans (pay17_eq _ _ _).symm)) $$ Hnb2
  iintro Hnb2
  ihave Hnb2 := (nb_thirds c 2 (nbW m c)).1 $$ Hnb2
  icases Hnb2 with ⟨HNS12, HNS22, HNS32⟩
  iapply (cur3 (st_copyM (src := (oqM 2)) (dst := (outM (w4 c 2) (fun _ => rfl))) (sm := lsem 8) c fullShare (nfW m c) (outW m c) (View.dmaCredit_pos _ (by decide)) (rd_o4 m c 2))) $$ Hoq2 Ho42 HZL8
  iintro HFL8
  iapply wp_done
  iapply Hk $$ Hgv HNS12 HNS22 HNS32 HFL8

theorem part13 (v2 v5 v8 v15 v16 : BitVec 32) (Q) :
    ⊢ iprop(recs m K -∗ at_ (nbM 2) c (shr 1) (nbW m c) -∗ slot (F := F) (rxM 0 2) 1 2 (nb 1 c) -∗ ow c 13 -∗
        dutyTok ER (sndC 1 2 c) 0 () -∗ dutyTok ER (rcvC 1 2 (nb 1 c)) 0 () -∗ at_ (nbM 2) c (shr 2) (nbW m c) -∗
        slot (F := F) (rxM 1 2) 2 2 (nb 2 c) -∗ dutyTok ER (sndC 2 2 c) 0 () -∗ dutyTok ER (rcvC 2 2 (nb 2 c)) 0 () -∗

        (ow c 15 -∗ cred (tallyAt (sndC 1 2 c) () N) -∗ cred (tallyAt (sndC 2 2 c) () N) -∗
            Q ⟨⟩)
        -∗ Wp c (on k0_part13 c v2 v5 v8 v15 v16) Q) := by
  simp only [on, k0_part13_eq_skeleton]; unfold k0_part13_skel
  simp only [Prog.lift, Prog.bind_op, Prog.bind_ret, Prog.pure_eq_ret]
  iintro #HR HNS12 HSL12 HO HTS12 HTR12 HNS22 HSL22 HTS22 HTR22 Hk
  iapply (cur6 (st_send (src := nbM 2) (dst := rxM 0 2) m K c 1 2 13 _ (dev14_eq c) (nbW m c) (rxW m (nb 1 c)) (shr 1) (rd_rx m c 0 2) rfl rfl rfl rfl)) $$ HR HNS12 HSL12 HO HTS12 HTR12
  iintro ⟨HCS12, HO⟩
  iapply (cur6 (st_send (src := nbM 2) (dst := rxM 1 2) m K c 2 2 14 _ (dev15_eq c) (nbW m c) (rxW m (nb 2 c)) (shr 2) (rd_rx m c 1 2) rfl rfl rfl rfl)) $$ HR HNS22 HSL22 HO HTS22 HTR22
  iintro ⟨HCS22, HO⟩
  iapply wp_done
  iapply Hk $$ HO HCS12 HCS22

theorem part14 (v2 v5 v14 : BitVec 32) (Q) :
    ⊢ iprop(recs m K -∗ at_ (nbM 2) c (shr 3) (nbW m c) -∗ slot (F := F) (rxM 2 2) 3 2 (nb 3 c) -∗ ow c 15 -∗
        dutyTok ER (sndC 3 2 c) 0 () -∗ dutyTok ER (rcvC 3 2 (nb 3 c)) 0 () -∗ cred (tallyAt (rcvC 0 3 c) () N) -∗
        atPos ER (rcvC 0 3 c) 0 ∅ 0 -∗ at_ (Memref.whole cc0_scratch1) c fullShare (acW m c) -∗ at_ gvM c fullShare (gvW m c) -∗
        (∃ f, at_ (oqM 3) c fullShare f) -∗
        (ow c 16 -∗ cred (tallyAt (sndC 3 2 c) () N) -∗ semVal (rcvC 0 3 c) 0 -∗
            at_ (cmM 3) c fullShare (cmW m c) -∗ at_ (Memref.whole cc0_scratch1) c fullShare (acW m c) -∗ at_ gvM c fullShare (gvW m c) -∗
            at_ (oqM 3) c fullShare (nfW m c) -∗ Q (k0_pay20 (ckRead (acW m c) 3) (ckRead (cmW m c) 3) (gvW m c)))
        -∗ Wp c (on k0_part14 c v2 v5 v14) Q) := by
  simp only [on, k0_part14_eq_skeleton]; unfold k0_part14_skel
  simp only [Prog.lift, Prog.bind_op, Prog.bind_ret, Prog.pure_eq_ret]
  iintro #HR HNS32 HSL32 HO HTS32 HTR32 HCV03 HAV03 Hac Hgv Hoq3 Hk
  iapply (cur6 (st_send (src := nbM 2) (dst := rxM 2 2) m K c 3 2 15 _ (dev16_eq c) (nbW m c) (rxW m (nb 3 c)) (shr 3) (rd_rx m c 2 2) rfl rfl rfl rfl)) $$ HR HNS32 HSL32 HO HTS32 HTR32
  iintro ⟨HCS32, HO⟩
  iapply (cur4 (st_waitV (dstw := cmM 3) m K c 0 3 16 (by exact above_two c 16 (by decide) (by decide)) rfl)) $$ HR HCV03 HO HAV03
  iintro ⟨HO, HZV03, HRV03⟩
  iapply (st_loadW (M := (Memref.whole cc0_scratch1)) (r := chk 3) c fullShare (acW m c) (ckRead (acW m c) 3) (rfl)) $$ Hac
  iintro Hac
  ihave HRV03 := (Entails.of_eq (rcv_cm m c 3)) $$ HRV03
  iapply (st_load (M := (Memref.whole cc0_scratch0)) (r := chk 3) c (fun _ => rfl) fullShare (cmW m c) (ckRead (cmW m c) 3) (rfl)) $$ HRV03
  iintro HRV03
  iapply (st_load (M := (Memref.whole cc0_scratch9)) (r := Rect.unit (s := S1x512) ![0, 0] S1x512.size inb_S1x512_S1x512_0_0) c (fun _ => rfl) fullShare (gvW m c) (gvW m c) (ld_gv m c)) $$ Hgv
  iintro Hgv
  icases Hoq3 with ⟨%fHoq3, Hoq3⟩
  iapply (st_load (M := (Memref.whole cc0_scratch6)) (r := chk 3) c (fun _ => rfl) fullShare (fHoq3) _ (rfl)) $$ Hoq3
  iintro Hoq3
  iapply (st_store (M := (Memref.whole cc0_scratch6)) (r := chk 3) c (fun _ => rfl) (fHoq3) (nfW m c) ((wr_nf m c 3).trans (pay19_eq _ _ _).symm)) $$ Hoq3
  iintro Hoq3
  iapply wp_done
  iapply Hk $$ HO HCS32 HZV03 HRV03 Hac Hgv Hoq3

theorem part15 (v2 v5 v8 v13 v14 v15 : BitVec 32) (Q) :
    ⊢ iprop(recs m K -∗ (∃ f, at_ (nbM 3) c fullShare f) -∗ at_ (oqM 3) c fullShare (nfW m c) -∗ (∃ f, at_ (outM (w4 c 3) (fun _ => rfl)) c fullShare f) -∗
        semVal ((c : Thread nD τ), .dma (lsem 9)) 0 -∗ slot (F := F) (rxM 0 3) 1 3 (nb 1 c) -∗ ow c 16 -∗
        dutyTok ER (sndC 1 3 c) 0 () -∗ dutyTok ER (rcvC 1 3 (nb 1 c)) 0 () -∗
        (at_ (nbM 3) c (shr 2) (nbW m c) -∗ at_ (nbM 3) c (shr 3) (nbW m c) -∗ Fly c (lsem 9) (crOf (outM (w4 c 3) (fun _ => rfl))) iprop(at_ (outM (w4 c 3) (fun _ => rfl)) c fullShare (outW m c) ∗ at_ (oqM 3) c fullShare (nfW m c)) -∗
            ow c 17 -∗ cred (tallyAt (sndC 1 3 c) () N) -∗ Q ⟨⟩)
        -∗ Wp c (on k0_part15 c v2 v5 v8 v13 v14 v15 (k0_pay20 (ckRead (acW m c) 3) (ckRead (cmW m c) 3) (gvW m c))) Q) := by
  simp only [on, k0_part15_eq_skeleton]; unfold k0_part15_skel
  simp only [Prog.lift, Prog.bind_op, Prog.bind_ret, Prog.pure_eq_ret]
  iintro #HR Hnb3 Hoq3 Ho43 HZL9 HSL13 HO HTS13 HTR13 Hk
  icases Hnb3 with ⟨%fHnb3, Hnb3⟩
  iapply (st_load (M := (Memref.whole cc0_scratch7)) (r := chk 3) c (fun _ => rfl) fullShare (fHnb3) _ (rfl)) $$ Hnb3
  iintro Hnb3
  iapply (st_store (M := (Memref.whole cc0_scratch7)) (r := chk 3) c (fun _ => rfl) (fHnb3) (nbW m c) ((wr_nb m c 3).trans (pay21_eq _ _ _).symm)) $$ Hnb3
  iintro Hnb3
  ihave Hnb3 := (nb_thirds c 3 (nbW m c)).1 $$ Hnb3
  icases Hnb3 with ⟨HNS13, HNS23, HNS33⟩
  iapply (cur3 (st_copyM (src := (oqM 3)) (dst := (outM (w4 c 3) (fun _ => rfl))) (sm := lsem 9) c fullShare (nfW m c) (outW m c) (View.dmaCredit_pos _ (by decide)) (rd_o4 m c 3))) $$ Hoq3 Ho43 HZL9
  iintro HFL9
  iapply (cur6 (st_send (src := nbM 3) (dst := rxM 0 3) m K c 1 3 16 _ (dev17_eq c) (nbW m c) (rxW m (nb 1 c)) (shr 1) (rd_rx m c 0 3) rfl rfl rfl rfl)) $$ HR HNS13 HSL13 HO HTS13 HTR13
  iintro ⟨HCS13, HO⟩
  iapply wp_done
  iapply Hk $$ HNS23 HNS33 HFL9 HO HCS13

theorem part16 (v2 v5 v8 v12 v14 v16 : BitVec 32) (Q) :
    ⊢ iprop(recs m K -∗ at_ (nbM 3) c (shr 2) (nbW m c) -∗ slot (F := F) (rxM 1 3) 2 3 (nb 2 c) -∗ ow c 17 -∗
        dutyTok ER (sndC 2 3 c) 0 () -∗ dutyTok ER (rcvC 2 3 (nb 2 c)) 0 () -∗ at_ (nbM 3) c (shr 3) (nbW m c) -∗
        slot (F := F) (rxM 2 3) 3 3 (nb 3 c) -∗ dutyTok ER (sndC 3 3 c) 0 () -∗ dutyTok ER (rcvC 3 3 (nb 3 c)) 0 () -∗

        (∀ r, ow c 19 -∗ cred (tallyAt (sndC 2 3 c) () N) -∗ cred (tallyAt (sndC 3 3 c) () N) -∗
            Q r)
        -∗ Wp c (on k0_part16 c v2 v5 v8 v12 v14 v16) Q) := by
  simp only [on, k0_part16_eq_skeleton]; unfold k0_part16_skel
  simp only [Prog.lift, Prog.bind_op, Prog.bind_ret, Prog.pure_eq_ret]
  iintro #HR HNS23 HSL23 HO HTS23 HTR23 HNS33 HSL33 HTS33 HTR33 Hk
  iapply (cur6 (st_send (src := nbM 3) (dst := rxM 1 3) m K c 2 3 17 _ (dev18_eq c) (nbW m c) (rxW m (nb 2 c)) (shr 2) (rd_rx m c 1 3) rfl rfl rfl rfl)) $$ HR HNS23 HSL23 HO HTS23 HTR23
  iintro ⟨HCS23, HO⟩
  iapply (cur6 (st_send (src := nbM 3) (dst := rxM 2 3) m K c 3 3 18 _ (dev19_eq c) (nbW m c) (rxW m (nb 3 c)) (shr 3) (rd_rx m c 2 3) rfl rfl rfl rfl)) $$ HR HNS33 HSL33 HO HTS33 HTR33
  iintro ⟨HCS33, HO⟩
  iapply wp_done
  iapply Hk $$ %_ HO HCS23 HCS33

end Cert.KernelIdeal.NormRun

end
-- ==== Proof.BodyC.lean ====
/-
The parts of the kernel's body: the neighbours' rows as they come, and the last waits.

Each lemma takes what its part uses and gives back what it leaves, at contents the protocol names.
-/
module

public import proofs.«01_k».proof.Proof.Kit

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (K : Dev nD × Fin 35 → ℕ) (c : Dev nD) (qs : Fin 3 → PosShare TreeShare)

theorem part17 (v2 v5 v14 : BitVec 32) (Q) :
    ⊢ iprop(recs m K -∗ cred (tallyAt (rcvC 1 0 c) () N) -∗ ow c 19 -∗ atPos ER (rcvC 1 0 c) 0 ∅ 0 -∗
        cred (tallyAt (rcvC 1 1 c) () N) -∗ atPos ER (rcvC 1 1 c) 0 ∅ 0 -∗
        (ow c 19 -∗ semVal (rcvC 1 0 c) 0 -∗ rcvPay m 1 0 c -∗
            semVal (rcvC 1 1 c) 0 -∗ rcvPay m 1 1 c -∗ Q ⟨⟩)
        -∗ Wp c (on k0_part17 v2 v5 v14) Q) := by
  simp only [on, k0_part17_eq_skeleton]; unfold k0_part17_skel
  simp only [Prog.lift, Prog.bind_op, Prog.bind_ret, Prog.pure_eq_ret]
  iintro #HR HCV10 HO HAV10 HCV11 HAV11 Hk
  iapply (cur4 (st_waitV (dstw := rxM 0 0) m K c 1 0 19 (by exact above_two c 19 (by decide) (by decide)) rfl)) $$ HR HCV10 HO HAV10
  iintro ⟨HO, HZV10, HRV10⟩
  iapply (cur4 (st_waitV (dstw := rxM 0 1) m K c 1 1 19 (by exact above_two c 19 (by decide) (by decide)) rfl)) $$ HR HCV11 HO HAV11
  iintro ⟨HO, HZV11, HRV11⟩
  iapply wp_done
  iapply Hk $$ HO HZV10 HRV10 HZV11 HRV11

theorem part18 (v2 v5 v14 v468 : BitVec 32) (Q) :
    ⊢ iprop(recs m K -∗ cred (tallyAt (rcvC 1 2 c) () N) -∗ ow c 19 -∗ atPos ER (rcvC 1 2 c) 0 ∅ 0 -∗
        cred (tallyAt (rcvC 1 3 c) () N) -∗ atPos ER (rcvC 1 3 c) 0 ∅ 0 -∗ at_ (phM 0) c fullShare (psW m c) -∗
        at_ (phM 1) c fullShare (psW m c) -∗ rcvPay m 1 0 c -∗ rcvPay m 1 1 c -∗
        (∃ f, at_ (outM (w5 c) (fun _ => rfl)) c fullShare f) -∗ semVal ((c : Thread nD τ), .dma (lsem 0)) 0 -∗
        (∀ v, ow c 19 -∗ semVal (rcvC 1 2 c) 0 -∗ semVal (rcvC 1 3 c) 0 -∗
            at_ ((Memref.whole cc0_scratch8).slice (pln 0) (fun _ => rfl)) c fullShare (rxW m c) -∗ Fly c (lsem 0) (crOf (outM (w5 c) (fun _ => rfl))) iprop(at_ (outM (w5 c) (fun _ => rfl)) c fullShare (outW m c) ∗ at_ (Memref.whole cc0_scratch2) c fullShare (wdW m 0 c)) -∗ Q v)
        -∗ Wp c (on k0_part18 c v2 v5 v14 v468) Q) := by
  simp only [on, k0_part18_eq_skeleton]; unfold k0_part18_skel
  simp only [Prog.lift, Prog.bind_op, Prog.bind_ret, Prog.pure_eq_ret]
  iintro #HR HCV12 HO HAV12 HCV13 HAV13 Hph0 Hph1 HRV10 HRV11 Ho5 HZL0 Hk
  iapply (cur4 (st_waitV (dstw := rxM 0 2) m K c 1 2 19 (by exact above_two c 19 (by decide) (by decide)) rfl)) $$ HR HCV12 HO HAV12
  iintro ⟨HO, HZV12, HRV12⟩
  iapply (cur4 (st_waitV (dstw := rxM 0 3) m K c 1 3 19 (by exact above_two c 19 (by decide) (by decide)) rfl)) $$ HR HCV13 HO HAV13
  iintro ⟨HO, HZV13, HRV13⟩
  ihave Hps := (Entails.of_eq (ps_halves c (psW m c))) $$ [Hph0 Hph1]
  · isplitl [Hph0]; · iexact Hph0
    iexact Hph1
  ihave Hrx0 := (Entails.of_eq (rcv_plane0 m c)) $$ [HRV10 HRV11 HRV12 HRV13]
  · isplitl [HRV10]; · iexact HRV10
    isplitl [HRV11]; · iexact HRV11
    isplitl [HRV12]; · iexact HRV12
    iexact HRV13
  iapply (st_load (M := (Memref.whole cc0_scratch8)) (r := pln 0) c (fun _ => rfl) fullShare (rxW m c) _ (rfl)) $$ Hrx0
  iintro Hrx0
  iapply (st_loadW (M := (Memref.whole cc0_scratch2)) c fullShare (psW m c) (psW m c) (ld_whole2 cc0_scratch2 rfl zero2 _ _)) $$ Hps
  iintro Hps
  iapply (st_storeW (M := (Memref.whole cc0_scratch2)) c (psW m c) (wdW m 0 c) (wr_whole cc0_scratch2 zero2 _ _ _ _ (pay22_eq m c))) $$ Hps
  iintro Hps
  iapply (cur3 (st_copyM (src := (Memref.whole cc0_scratch2)) (dst := (outM (w5 c) (fun _ => rfl))) (sm := lsem 0) c fullShare (wdW m 0 c) (outW m c) (View.dmaCredit_pos _ (by decide)) (rd_o5 m c))) $$ Hps Ho5 HZL0
  iintro HFL0
  iapply wp_done
  iapply Hk $$ %_ HO HZV12 HZV13 Hrx0 HFL0

theorem part19 (v2 v5 v14 v530 : BitVec 32) (Q) :
    ⊢ iprop(recs m K -∗ cred (tallyAt (rcvC 2 0 c) () N) -∗ ow c 19 -∗ atPos ER (rcvC 2 0 c) 0 ∅ 0 -∗
        cred (tallyAt (rcvC 2 1 c) () N) -∗ atPos ER (rcvC 2 1 c) 0 ∅ 0 -∗
        (ow c 19 -∗ semVal (rcvC 2 0 c) 0 -∗ rcvPay m 2 0 c -∗
            semVal (rcvC 2 1 c) 0 -∗ rcvPay m 2 1 c -∗ Q ⟨⟩)
        -∗ Wp c (on k0_part19 v2 v5 v14 v530) Q) := by
  simp only [on, k0_part19_eq_skeleton]; unfold k0_part19_skel
  simp only [Prog.lift, Prog.bind_op, Prog.bind_ret, Prog.pure_eq_ret]
  iintro #HR HCV20 HO HAV20 HCV21 HAV21 Hk
  iapply (cur4 (st_waitV (dstw := rxM 1 0) m K c 2 0 19 (by exact above_two c 19 (by decide) (by decide)) rfl)) $$ HR HCV20 HO HAV20
  iintro ⟨HO, HZV20, HRV20⟩
  iapply (cur4 (st_waitV (dstw := rxM 1 1) m K c 2 1 19 (by exact above_two c 19 (by decide) (by decide)) rfl)) $$ HR HCV21 HO HAV21
  iintro ⟨HO, HZV21, HRV21⟩
  iapply wp_done
  iapply Hk $$ HO HZV20 HRV20 HZV21 HRV21

theorem part20 (v2 v5 v14 v469 : BitVec 32) (Q) :
    ⊢ iprop(recs m K -∗ cred (tallyAt (rcvC 2 2 c) () N) -∗ ow c 19 -∗ atPos ER (rcvC 2 2 c) 0 ∅ 0 -∗
        cred (tallyAt (rcvC 2 3 c) () N) -∗ atPos ER (rcvC 2 3 c) 0 ∅ 0 -∗ rcvPay m 2 0 c -∗
        rcvPay m 2 1 c -∗ at_ (Memref.whole cc0_scratch4) c fullShare (pmW m c) -∗ (∃ f, at_ (outM (w6 c) (fun _ => rfl)) c fullShare f) -∗
        semVal ((c : Thread nD τ), .dma (lsem 1)) 0 -∗
        (ow c 19 -∗ semVal (rcvC 2 2 c) 0 -∗ semVal (rcvC 2 3 c) 0 -∗
            at_ ((Memref.whole cc0_scratch8).slice (pln 1) (fun _ => rfl)) c fullShare (rxW m c) -∗ Fly c (lsem 1) (crOf (outM (w6 c) (fun _ => rfl))) iprop(at_ (outM (w6 c) (fun _ => rfl)) c fullShare (outW m c) ∗ at_ (Memref.whole cc0_scratch4) c fullShare (wdW m 1 c)) -∗ Q ⟨⟩)
        -∗ Wp c (on k0_part20 c v2 v5 v14 v469) Q) := by
  simp only [on, k0_part20_eq_skeleton]; unfold k0_part20_skel
  simp only [Prog.lift, Prog.bind_op, Prog.bind_ret, Prog.pure_eq_ret]
  iintro #HR HCV22 HO HAV22 HCV23 HAV23 HRV20 HRV21 Hpm Ho6 HZL1 Hk
  iapply (cur4 (st_waitV (dstw := rxM 1 2) m K c 2 2 19 (by exact above_two c 19 (by decide) (by decide)) rfl)) $$ HR HCV22 HO HAV22
  iintro ⟨HO, HZV22, HRV22⟩
  iapply (cur4 (st_waitV (dstw := rxM 1 3) m K c 2 3 19 (by exact above_two c 19 (by decide) (by decide)) rfl)) $$ HR HCV23 HO HAV23
  iintro ⟨HO, HZV23, HRV23⟩
  ihave Hrx1 := (Entails.of_eq (rcv_plane1 m c)) $$ [HRV20 HRV21 HRV22 HRV23]
  · isplitl [HRV20]; · iexact HRV20
    isplitl [HRV21]; · iexact HRV21
    isplitl [HRV22]; · iexact HRV22
    iexact HRV23
  iapply (st_load (M := (Memref.whole cc0_scratch8)) (r := pln 1) c (fun _ => rfl) fullShare (rxW m c) _ (rfl)) $$ Hrx1
  iintro Hrx1
  iapply (st_loadW (M := (Memref.whole cc0_scratch4)) c fullShare (pmW m c) (pmW m c) (ld_whole2 cc0_scratch4 rfl zero2 _ _)) $$ Hpm
  iintro Hpm
  iapply (st_storeW (M := (Memref.whole cc0_scratch4)) c (pmW m c) (wdW m 1 c) (wr_whole cc0_scratch4 zero2 _ _ _ _ (pay23_eq m c))) $$ Hpm
  iintro Hpm
  iapply (cur3 (st_copyM (src := (Memref.whole cc0_scratch4)) (dst := (outM (w6 c) (fun _ => rfl))) (sm := lsem 1) c fullShare (wdW m 1 c) (outW m c) (View.dmaCredit_pos _ (by decide)) (rd_o6 m c))) $$ Hpm Ho6 HZL1
  iintro HFL1
  iapply wp_done
  iapply Hk $$ HO HZV22 HZV23 Hrx1 HFL1

theorem part21 (v2 v5 v14 : BitVec 32) (Q) :
    ⊢ iprop(recs m K -∗ cred (tallyAt (rcvC 3 0 c) () N) -∗ ow c 19 -∗ atPos ER (rcvC 3 0 c) 0 ∅ 0 -∗
        cred (tallyAt (rcvC 3 1 c) () N) -∗ atPos ER (rcvC 3 1 c) 0 ∅ 0 -∗
        (∀ v, ow c 19 -∗ semVal (rcvC 3 0 c) 0 -∗ rcvPay m 3 0 c -∗
            semVal (rcvC 3 1 c) 0 -∗ rcvPay m 3 1 c -∗ Q v)
        -∗ Wp c (on k0_part21 v2 v5 v14) Q) := by
  simp only [on, k0_part21_eq_skeleton]; unfold k0_part21_skel
  simp only [Prog.lift, Prog.bind_op, Prog.bind_ret, Prog.pure_eq_ret]
  iintro #HR HCV30 HO HAV30 HCV31 HAV31 Hk
  iapply (cur4 (st_waitV (dstw := rxM 2 0) m K c 3 0 19 (by exact above_two c 19 (by decide) (by decide)) rfl)) $$ HR HCV30 HO HAV30
  iintro ⟨HO, HZV30, HRV30⟩
  iapply (cur4 (st_waitV (dstw := rxM 2 1) m K c 3 1 19 (by exact above_two c 19 (by decide) (by decide)) rfl)) $$ HR HCV31 HO HAV31
  iintro ⟨HO, HZV31, HRV31⟩
  iapply wp_done
  iapply Hk $$ %_ HO HZV30 HRV30 HZV31 HRV31

theorem part22 (v2 v5 v14 v470 v611 : BitVec 32) (Q) :
    ⊢ iprop(recs m K -∗ cred (tallyAt (rcvC 3 2 c) () N) -∗ ow c 19 -∗ atPos ER (rcvC 3 2 c) 0 ∅ 0 -∗
        cred (tallyAt (rcvC 3 3 c) () N) -∗ atPos ER (rcvC 3 3 c) 0 ∅ 0 -∗ rcvPay m 3 0 c -∗
        rcvPay m 3 1 c -∗ at_ (Memref.whole cc0_scratch5) c fullShare (rqW m c) -∗
        (ow c 19 -∗ semVal (rcvC 3 2 c) 0 -∗ semVal (rcvC 3 3 c) 0 -∗
            at_ ((Memref.whole cc0_scratch8).slice (pln 2) (fun _ => rfl)) c fullShare (rxW m c) -∗ at_ (Memref.whole cc0_scratch5) c fullShare (wdW m 2 c) -∗ Q ⟨⟩)
        -∗ Wp c (on k0_part22 v2 v5 v14 v470 v611) Q) := by
  simp only [on, k0_part22_eq_skeleton]; unfold k0_part22_skel
  simp only [Prog.lift, Prog.bind_op, Prog.bind_ret, Prog.pure_eq_ret]
  iintro #HR HCV32 HO HAV32 HCV33 HAV33 HRV30 HRV31 Hrq Hk
  iapply (cur4 (st_waitV (dstw := rxM 2 2) m K c 3 2 19 (by exact above_two c 19 (by decide) (by decide)) rfl)) $$ HR HCV32 HO HAV32
  iintro ⟨HO, HZV32, HRV32⟩
  iapply (cur4 (st_waitV (dstw := rxM 2 3) m K c 3 3 19 (by exact above_two c 19 (by decide) (by decide)) rfl)) $$ HR HCV33 HO HAV33
  iintro ⟨HO, HZV33, HRV33⟩
  ihave Hrx2 := (Entails.of_eq (rcv_plane2 m c)) $$ [HRV30 HRV31 HRV32 HRV33]
  · isplitl [HRV30]; · iexact HRV30
    isplitl [HRV31]; · iexact HRV31
    isplitl [HRV32]; · iexact HRV32
    iexact HRV33
  iapply (st_load (M := (Memref.whole cc0_scratch8)) (r := pln 2) c (fun _ => rfl) fullShare (rxW m c) _ (rfl)) $$ Hrx2
  iintro Hrx2
  iapply (st_loadW (M := (Memref.whole cc0_scratch5)) c fullShare (rqW m c) (rqW m c) (ld_whole2 cc0_scratch5 rfl zero2 _ _)) $$ Hrq
  iintro Hrq
  iapply (st_storeW (M := (Memref.whole cc0_scratch5)) c (rqW m c) (wdW m 2 c) (wr_whole cc0_scratch5 zero2 _ _ _ _ (pay24_eq m c))) $$ Hrq
  iintro Hrq
  iapply wp_done
  iapply Hk $$ HO HZV32 HZV33 Hrx2 Hrq

theorem part23 (Q) :
    ⊢ iprop(recs m K -∗ at_ (Memref.whole cc0_scratch5) c fullShare (wdW m 2 c) -∗ (∃ f, at_ (outM (w7 c) (fun _ => rfl)) c fullShare f) -∗ semVal ((c : Thread nD τ), .dma (lsem 2)) 0 -∗
        Fly c (lsem 0) (crOf (outM (w5 c) (fun _ => rfl))) iprop(at_ (outM (w5 c) (fun _ => rfl)) c fullShare (outW m c) ∗ at_ (Memref.whole cc0_scratch2) c fullShare (wdW m 0 c)) -∗ ow c 19 -∗ Fly c (lsem 1) (crOf (outM (w6 c) (fun _ => rfl))) iprop(at_ (outM (w6 c) (fun _ => rfl)) c fullShare (outW m c) ∗ at_ (Memref.whole cc0_scratch4) c fullShare (wdW m 1 c)) -∗
        Fly c (lsem 6) (crOf (outM (w4 c 0) (fun _ => rfl))) iprop(at_ (outM (w4 c 0) (fun _ => rfl)) c fullShare (outW m c) ∗ at_ (oqM 0) c fullShare (nfW m c)) -∗ Fly c (lsem 7) (crOf (outM (w4 c 1) (fun _ => rfl))) iprop(at_ (outM (w4 c 1) (fun _ => rfl)) c fullShare (outW m c) ∗ at_ (oqM 1) c fullShare (nfW m c)) -∗ Fly c (lsem 8) (crOf (outM (w4 c 2) (fun _ => rfl))) iprop(at_ (outM (w4 c 2) (fun _ => rfl)) c fullShare (outW m c) ∗ at_ (oqM 2) c fullShare (nfW m c)) -∗
        Fly c (lsem 9) (crOf (outM (w4 c 3) (fun _ => rfl))) iprop(at_ (outM (w4 c 3) (fun _ => rfl)) c fullShare (outW m c) ∗ at_ (oqM 3) c fullShare (nfW m c)) -∗
        (ow c 19 -∗ at_ (outM (w5 c) (fun _ => rfl)) c fullShare (outW m c) -∗ at_ (Memref.whole cc0_scratch2) c fullShare (wdW m 0 c) -∗
            semVal ((c : Thread nD τ), .dma (lsem 0)) 0 -∗ at_ (outM (w6 c) (fun _ => rfl)) c fullShare (outW m c) -∗ at_ (Memref.whole cc0_scratch4) c fullShare (wdW m 1 c) -∗
            semVal ((c : Thread nD τ), .dma (lsem 1)) 0 -∗ at_ (outM (w7 c) (fun _ => rfl)) c fullShare (outW m c) -∗ at_ (Memref.whole cc0_scratch5) c fullShare (wdW m 2 c) -∗
            semVal ((c : Thread nD τ), .dma (lsem 2)) 0 -∗ at_ (outM (w4 c 0) (fun _ => rfl)) c fullShare (outW m c) -∗ at_ (oqM 0) c fullShare (nfW m c) -∗
            semVal ((c : Thread nD τ), .dma (lsem 6)) 0 -∗ at_ (outM (w4 c 1) (fun _ => rfl)) c fullShare (outW m c) -∗ at_ (oqM 1) c fullShare (nfW m c) -∗
            semVal ((c : Thread nD τ), .dma (lsem 7)) 0 -∗ at_ (outM (w4 c 2) (fun _ => rfl)) c fullShare (outW m c) -∗ at_ (oqM 2) c fullShare (nfW m c) -∗
            semVal ((c : Thread nD τ), .dma (lsem 8)) 0 -∗ at_ (outM (w4 c 3) (fun _ => rfl)) c fullShare (outW m c) -∗ at_ (oqM 3) c fullShare (nfW m c) -∗
            semVal ((c : Thread nD τ), .dma (lsem 9)) 0 -∗ Q ⟨⟩)
        -∗ Wp c (on k0_part23 c) Q) := by
  simp only [on, k0_part23_eq_skeleton]; unfold k0_part23_skel
  simp only [Prog.lift, Prog.bind_op, Prog.bind_ret, Prog.pure_eq_ret]
  iintro #HR Hrq Ho7 HZL2 HFL0 HO HFL1 HFL6 HFL7 HFL8 HFL9 Hk
  iapply (cur3 (st_copyM (src := (Memref.whole cc0_scratch5)) (dst := (outM (w7 c) (fun _ => rfl))) (sm := lsem 2) c fullShare (wdW m 2 c) (outW m c) (View.dmaCredit_pos _ (by decide)) (rd_o7 m c))) $$ Hrq Ho7 HZL2
  iintro HFL2
  iapply (cur3 (st_waitL (K := K) m c 19 (above_loc c 19 (by decide)) (sm := lsem 0) (by decide) (dstw := (outM (w5 c) (fun _ => rfl))) (M := crOf (outM (w5 c) (fun _ => rfl))) rfl)) $$ HR HFL0 HO
  iintro ⟨⟨Ho5, Hps⟩, HZL0, HO⟩
  iapply (cur3 (st_waitL (K := K) m c 19 (above_loc c 19 (by decide)) (sm := lsem 1) (by decide) (dstw := (outM (w6 c) (fun _ => rfl))) (M := crOf (outM (w6 c) (fun _ => rfl))) rfl)) $$ HR HFL1 HO
  iintro ⟨⟨Ho6, Hpm⟩, HZL1, HO⟩
  iapply (cur3 (st_waitL (K := K) m c 19 (above_loc c 19 (by decide)) (sm := lsem 2) (by decide) (dstw := (outM (w7 c) (fun _ => rfl))) (M := crOf (outM (w7 c) (fun _ => rfl))) rfl)) $$ HR HFL2 HO
  iintro ⟨⟨Ho7, Hrq⟩, HZL2, HO⟩
  iapply (cur3 (st_waitL (K := K) m c 19 (above_loc c 19 (by decide)) (sm := lsem 6) (by decide) (dstw := (outM (w4 c 0) (fun _ => rfl))) (M := crOf (outM (w4 c 0) (fun _ => rfl))) rfl)) $$ HR HFL6 HO
  iintro ⟨⟨Ho40, Hoq0⟩, HZL6, HO⟩
  iapply (cur3 (st_waitL (K := K) m c 19 (above_loc c 19 (by decide)) (sm := lsem 7) (by decide) (dstw := (outM (w4 c 1) (fun _ => rfl))) (M := crOf (outM (w4 c 1) (fun _ => rfl))) rfl)) $$ HR HFL7 HO
  iintro ⟨⟨Ho41, Hoq1⟩, HZL7, HO⟩
  iapply (cur3 (st_waitL (K := K) m c 19 (above_loc c 19 (by decide)) (sm := lsem 8) (by decide) (dstw := (outM (w4 c 2) (fun _ => rfl))) (M := crOf (outM (w4 c 2) (fun _ => rfl))) rfl)) $$ HR HFL8 HO
  iintro ⟨⟨Ho42, Hoq2⟩, HZL8, HO⟩
  iapply (cur3 (st_waitL (K := K) m c 19 (above_loc c 19 (by decide)) (sm := lsem 9) (by decide) (dstw := (outM (w4 c 3) (fun _ => rfl))) (M := crOf (outM (w4 c 3) (fun _ => rfl))) rfl)) $$ HR HFL9 HO
  iintro ⟨⟨Ho43, Hoq3⟩, HZL9, HO⟩
  iapply wp_done
  iapply Hk $$ HO Ho5 Hps HZL0 Ho6 Hpm HZL1 Ho7 Hrq HZL2 Ho40 Hoq0 HZL6 Ho41 Hoq1 HZL7 Ho42 Hoq2 HZL8 Ho43 Hoq3 HZL9

theorem part24 (Q) :
    ⊢ iprop(recs m K -∗ cred (tallyAt (sndC 0 0 c) () N) -∗ ow c 19 -∗ atPos ER (sndC 0 0 c) 0 ∅ 0 -∗
        cred (tallyAt (sndC 0 1 c) () N) -∗ atPos ER (sndC 0 1 c) 0 ∅ 0 -∗ cred (tallyAt (sndC 0 2 c) () N) -∗
        atPos ER (sndC 0 2 c) 0 ∅ 0 -∗ cred (tallyAt (sndC 0 3 c) () N) -∗ atPos ER (sndC 0 3 c) 0 ∅ 0 -∗

        (ow c 19 -∗ semVal (sndC 0 0 c) 0 -∗ sndPay m 0 0 c -∗
            semVal (sndC 0 1 c) 0 -∗ sndPay m 0 1 c -∗ semVal (sndC 0 2 c) 0 -∗
            sndPay m 0 2 c -∗ semVal (sndC 0 3 c) 0 -∗ sndPay m 0 3 c -∗
            Q ⟨⟩)
        -∗ Wp c (on k0_part24) Q) := by
  simp only [on, k0_part24_eq_skeleton]; unfold k0_part24_skel
  simp only [Prog.lift, Prog.bind_op, Prog.bind_ret, Prog.pure_eq_ret]
  iintro #HR HCS00 HO HAS00 HCS01 HAS01 HCS02 HAS02 HCS03 HAS03 Hk
  iapply (cur4 (st_waitS (dstw := psM 0) m K c 0 0 19 (above_loc c 19 (by decide)) rfl)) $$ HR HCS00 HO HAS00
  iintro ⟨HO, HZS00, HSV00⟩
  iapply (cur4 (st_waitS (dstw := psM 1) m K c 0 1 19 (above_loc c 19 (by decide)) rfl)) $$ HR HCS01 HO HAS01
  iintro ⟨HO, HZS01, HSV01⟩
  iapply (cur4 (st_waitS (dstw := psM 2) m K c 0 2 19 (above_loc c 19 (by decide)) rfl)) $$ HR HCS02 HO HAS02
  iintro ⟨HO, HZS02, HSV02⟩
  iapply (cur4 (st_waitS (dstw := psM 3) m K c 0 3 19 (above_loc c 19 (by decide)) rfl)) $$ HR HCS03 HO HAS03
  iintro ⟨HO, HZS03, HSV03⟩
  iapply wp_done
  iapply Hk $$ HO HZS00 HSV00 HZS01 HSV01 HZS02 HSV02 HZS03 HSV03

theorem part25 (Q) :
    ⊢ iprop(recs m K -∗ cred (tallyAt (sndC 1 0 c) () N) -∗ ow c 19 -∗ atPos ER (sndC 1 0 c) 0 ∅ 0 -∗
        cred (tallyAt (sndC 2 0 c) () N) -∗ atPos ER (sndC 2 0 c) 0 ∅ 0 -∗ cred (tallyAt (sndC 3 0 c) () N) -∗
        atPos ER (sndC 3 0 c) 0 ∅ 0 -∗ cred (tallyAt (sndC 1 1 c) () N) -∗ atPos ER (sndC 1 1 c) 0 ∅ 0 -∗

        (ow c 19 -∗ semVal (sndC 1 0 c) 0 -∗ sndPay m 1 0 c -∗
            semVal (sndC 2 0 c) 0 -∗ sndPay m 2 0 c -∗ semVal (sndC 3 0 c) 0 -∗
            sndPay m 3 0 c -∗ semVal (sndC 1 1 c) 0 -∗ sndPay m 1 1 c -∗
            Q ⟨⟩)
        -∗ Wp c (on k0_part25) Q) := by
  simp only [on, k0_part25_eq_skeleton]; unfold k0_part25_skel
  simp only [Prog.lift, Prog.bind_op, Prog.bind_ret, Prog.pure_eq_ret]
  iintro #HR HCS10 HO HAS10 HCS20 HAS20 HCS30 HAS30 HCS11 HAS11 Hk
  iapply (cur4 (st_waitS (dstw := nbM 0) m K c 1 0 19 (above_loc c 19 (by decide)) rfl)) $$ HR HCS10 HO HAS10
  iintro ⟨HO, HZS10, HSV10⟩
  iapply (cur4 (st_waitS (dstw := nbM 0) m K c 2 0 19 (above_loc c 19 (by decide)) rfl)) $$ HR HCS20 HO HAS20
  iintro ⟨HO, HZS20, HSV20⟩
  iapply (cur4 (st_waitS (dstw := nbM 0) m K c 3 0 19 (above_loc c 19 (by decide)) rfl)) $$ HR HCS30 HO HAS30
  iintro ⟨HO, HZS30, HSV30⟩
  iapply (cur4 (st_waitS (dstw := nbM 1) m K c 1 1 19 (above_loc c 19 (by decide)) rfl)) $$ HR HCS11 HO HAS11
  iintro ⟨HO, HZS11, HSV11⟩
  iapply wp_done
  iapply Hk $$ HO HZS10 HSV10 HZS20 HSV20 HZS30 HSV30 HZS11 HSV11

theorem part26 (Q) :
    ⊢ iprop(recs m K -∗ cred (tallyAt (sndC 2 1 c) () N) -∗ ow c 19 -∗ atPos ER (sndC 2 1 c) 0 ∅ 0 -∗
        cred (tallyAt (sndC 3 1 c) () N) -∗ atPos ER (sndC 3 1 c) 0 ∅ 0 -∗ cred (tallyAt (sndC 1 2 c) () N) -∗
        atPos ER (sndC 1 2 c) 0 ∅ 0 -∗
        (ow c 19 -∗ semVal (sndC 2 1 c) 0 -∗ sndPay m 2 1 c -∗
            semVal (sndC 3 1 c) 0 -∗ sndPay m 3 1 c -∗ semVal (sndC 1 2 c) 0 -∗
            sndPay m 1 2 c -∗ Q ⟨⟩)
        -∗ Wp c (on k0_part26) Q) := by
  simp only [on, k0_part26_eq_skeleton]; unfold k0_part26_skel
  simp only [Prog.lift, Prog.bind_op, Prog.bind_ret, Prog.pure_eq_ret]
  iintro #HR HCS21 HO HAS21 HCS31 HAS31 HCS12 HAS12 Hk
  iapply (cur4 (st_waitS (dstw := nbM 1) m K c 2 1 19 (above_loc c 19 (by decide)) rfl)) $$ HR HCS21 HO HAS21
  iintro ⟨HO, HZS21, HSV21⟩
  iapply (cur4 (st_waitS (dstw := nbM 1) m K c 3 1 19 (above_loc c 19 (by decide)) rfl)) $$ HR HCS31 HO HAS31
  iintro ⟨HO, HZS31, HSV31⟩
  iapply (cur4 (st_waitS (dstw := nbM 2) m K c 1 2 19 (above_loc c 19 (by decide)) rfl)) $$ HR HCS12 HO HAS12
  iintro ⟨HO, HZS12, HSV12⟩
  iapply wp_done
  iapply Hk $$ HO HZS21 HSV21 HZS31 HSV31 HZS12 HSV12

theorem part27 (Q) :
    ⊢ iprop(recs m K -∗ cred (tallyAt (sndC 2 2 c) () N) -∗ ow c 19 -∗ atPos ER (sndC 2 2 c) 0 ∅ 0 -∗
        cred (tallyAt (sndC 3 2 c) () N) -∗ atPos ER (sndC 3 2 c) 0 ∅ 0 -∗ cred (tallyAt (sndC 1 3 c) () N) -∗
        atPos ER (sndC 1 3 c) 0 ∅ 0 -∗ cred (tallyAt (sndC 2 3 c) () N) -∗ atPos ER (sndC 2 3 c) 0 ∅ 0 -∗

        (ow c 19 -∗ semVal (sndC 2 2 c) 0 -∗ sndPay m 2 2 c -∗
            semVal (sndC 3 2 c) 0 -∗ sndPay m 3 2 c -∗ semVal (sndC 1 3 c) 0 -∗
            sndPay m 1 3 c -∗ semVal (sndC 2 3 c) 0 -∗ sndPay m 2 3 c -∗
            Q ⟨⟩)
        -∗ Wp c (on k0_part27) Q) := by
  simp only [on, k0_part27_eq_skeleton]; unfold k0_part27_skel
  simp only [Prog.lift, Prog.bind_op, Prog.bind_ret, Prog.pure_eq_ret]
  iintro #HR HCS22 HO HAS22 HCS32 HAS32 HCS13 HAS13 HCS23 HAS23 Hk
  iapply (cur4 (st_waitS (dstw := nbM 2) m K c 2 2 19 (above_loc c 19 (by decide)) rfl)) $$ HR HCS22 HO HAS22
  iintro ⟨HO, HZS22, HSV22⟩
  iapply (cur4 (st_waitS (dstw := nbM 2) m K c 3 2 19 (above_loc c 19 (by decide)) rfl)) $$ HR HCS32 HO HAS32
  iintro ⟨HO, HZS32, HSV32⟩
  iapply (cur4 (st_waitS (dstw := nbM 3) m K c 1 3 19 (above_loc c 19 (by decide)) rfl)) $$ HR HCS13 HO HAS13
  iintro ⟨HO, HZS13, HSV13⟩
  iapply (cur4 (st_waitS (dstw := nbM 3) m K c 2 3 19 (above_loc c 19 (by decide)) rfl)) $$ HR HCS23 HO HAS23
  iintro ⟨HO, HZS23, HSV23⟩
  iapply wp_done
  iapply Hk $$ HO HZS22 HSV22 HZS32 HSV32 HZS13 HSV13 HZS23 HSV23

end Cert.KernelIdeal.NormRun

end
-- ==== Proof.Body.lean ====
/-
The kernel's body, part after part: from what a device holds at its start to what it holds at its end.
-/
module

public import proofs.«01_k».proof.Proof.BodyA
public import proofs.«01_k».proof.Proof.BodyB
public import proofs.«01_k».proof.Proof.BodyC

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (K : Dev nD × Fin 35 → ℕ) (c : Dev nD) (qs : Fin 3 → PosShare TreeShare)

set_option maxRecDepth 65536 in
set_option maxHeartbeats 4000000 in
/-- The body, whole. -/
theorem body_run (Q) :
    ⊢ iprop(recs m K -∗ ow c 0 -∗ rdyPay (F := F) 0 (nb (Fin.succ 0) c) -∗ dutyTok ER (rdyC 0 (nb (Fin.succ 0) c)) 0 () -∗
        cred (tallyAt (rdyC 0 c) () 1) -∗ atPos ER (rdyC 0 c) 0 ∅ 0 -∗ rdyPay (F := F) 1 (nb (Fin.succ 1) c) -∗
        dutyTok ER (rdyC 1 (nb (Fin.succ 1) c)) 0 () -∗ cred (tallyAt (rdyC 1 c) () 1) -∗ atPos ER (rdyC 1 c) 0 ∅ 0 -∗
        rdyPay (F := F) 2 (nb (Fin.succ 2) c) -∗ dutyTok ER (rdyC 2 (nb (Fin.succ 2) c)) 0 () -∗ cred (tallyAt (rdyC 2 c) () 1) -∗
        atPos ER (rdyC 2 c) 0 ∅ 0 -∗ dutyTok ER (sndC 0 0 c) 0 () -∗ dutyTok ER (rcvC 0 0 (nb 0 c)) 0 () -∗
        cred (tallyAt (rcvC 0 0 c) () N) -∗ atPos ER (rcvC 0 0 c) 0 ∅ 0 -∗ atPos ER (sndC 0 0 c) 0 ∅ 0 -∗
        dutyTok ER (sndC 0 1 c) 0 () -∗ dutyTok ER (rcvC 0 1 (nb 0 c)) 0 () -∗ cred (tallyAt (rcvC 0 1 c) () N) -∗
        atPos ER (rcvC 0 1 c) 0 ∅ 0 -∗ atPos ER (sndC 0 1 c) 0 ∅ 0 -∗ dutyTok ER (sndC 0 2 c) 0 () -∗
        dutyTok ER (rcvC 0 2 (nb 0 c)) 0 () -∗ cred (tallyAt (rcvC 0 2 c) () N) -∗ atPos ER (rcvC 0 2 c) 0 ∅ 0 -∗
        atPos ER (sndC 0 2 c) 0 ∅ 0 -∗ dutyTok ER (sndC 0 3 c) 0 () -∗ dutyTok ER (rcvC 0 3 (nb 0 c)) 0 () -∗
        cred (tallyAt (rcvC 0 3 c) () N) -∗ atPos ER (rcvC 0 3 c) 0 ∅ 0 -∗ atPos ER (sndC 0 3 c) 0 ∅ 0 -∗
        dutyTok ER (sndC 1 0 c) 0 () -∗ dutyTok ER (rcvC 1 0 (nb 1 c)) 0 () -∗ cred (tallyAt (rcvC 1 0 c) () N) -∗
        atPos ER (rcvC 1 0 c) 0 ∅ 0 -∗ atPos ER (sndC 1 0 c) 0 ∅ 0 -∗ dutyTok ER (sndC 1 1 c) 0 () -∗
        dutyTok ER (rcvC 1 1 (nb 1 c)) 0 () -∗ cred (tallyAt (rcvC 1 1 c) () N) -∗ atPos ER (rcvC 1 1 c) 0 ∅ 0 -∗
        atPos ER (sndC 1 1 c) 0 ∅ 0 -∗ dutyTok ER (sndC 1 2 c) 0 () -∗ dutyTok ER (rcvC 1 2 (nb 1 c)) 0 () -∗
        cred (tallyAt (rcvC 1 2 c) () N) -∗ atPos ER (rcvC 1 2 c) 0 ∅ 0 -∗ atPos ER (sndC 1 2 c) 0 ∅ 0 -∗
        dutyTok ER (sndC 1 3 c) 0 () -∗ dutyTok ER (rcvC 1 3 (nb 1 c)) 0 () -∗ cred (tallyAt (rcvC 1 3 c) () N) -∗
        atPos ER (rcvC 1 3 c) 0 ∅ 0 -∗ atPos ER (sndC 1 3 c) 0 ∅ 0 -∗ dutyTok ER (sndC 2 0 c) 0 () -∗
        dutyTok ER (rcvC 2 0 (nb 2 c)) 0 () -∗ cred (tallyAt (rcvC 2 0 c) () N) -∗ atPos ER (rcvC 2 0 c) 0 ∅ 0 -∗
        atPos ER (sndC 2 0 c) 0 ∅ 0 -∗ dutyTok ER (sndC 2 1 c) 0 () -∗ dutyTok ER (rcvC 2 1 (nb 2 c)) 0 () -∗
        cred (tallyAt (rcvC 2 1 c) () N) -∗ atPos ER (rcvC 2 1 c) 0 ∅ 0 -∗ atPos ER (sndC 2 1 c) 0 ∅ 0 -∗
        dutyTok ER (sndC 2 2 c) 0 () -∗ dutyTok ER (rcvC 2 2 (nb 2 c)) 0 () -∗ cred (tallyAt (rcvC 2 2 c) () N) -∗
        atPos ER (rcvC 2 2 c) 0 ∅ 0 -∗ atPos ER (sndC 2 2 c) 0 ∅ 0 -∗ dutyTok ER (sndC 2 3 c) 0 () -∗
        dutyTok ER (rcvC 2 3 (nb 2 c)) 0 () -∗ cred (tallyAt (rcvC 2 3 c) () N) -∗ atPos ER (rcvC 2 3 c) 0 ∅ 0 -∗
        atPos ER (sndC 2 3 c) 0 ∅ 0 -∗ dutyTok ER (sndC 3 0 c) 0 () -∗ dutyTok ER (rcvC 3 0 (nb 3 c)) 0 () -∗
        cred (tallyAt (rcvC 3 0 c) () N) -∗ atPos ER (rcvC 3 0 c) 0 ∅ 0 -∗ atPos ER (sndC 3 0 c) 0 ∅ 0 -∗
        dutyTok ER (sndC 3 1 c) 0 () -∗ dutyTok ER (rcvC 3 1 (nb 3 c)) 0 () -∗ cred (tallyAt (rcvC 3 1 c) () N) -∗
        atPos ER (rcvC 3 1 c) 0 ∅ 0 -∗ atPos ER (sndC 3 1 c) 0 ∅ 0 -∗ dutyTok ER (sndC 3 2 c) 0 () -∗
        dutyTok ER (rcvC 3 2 (nb 3 c)) 0 () -∗ cred (tallyAt (rcvC 3 2 c) () N) -∗ atPos ER (rcvC 3 2 c) 0 ∅ 0 -∗
        atPos ER (sndC 3 2 c) 0 ∅ 0 -∗ dutyTok ER (sndC 3 3 c) 0 () -∗ dutyTok ER (rcvC 3 3 (nb 3 c)) 0 () -∗
        cred (tallyAt (rcvC 3 3 c) () N) -∗ atPos ER (rcvC 3 3 c) 0 ∅ 0 -∗ atPos ER (sndC 3 3 c) 0 ∅ 0 -∗
        at_ (sPM c 0) c (qs 0) (V m c main_arg0) -∗ at_ (sPM c 1) c (qs 1) (V m c main_arg0) -∗ at_ (sQM c) c (qs 2) (V m c main_arg0) -∗
        at_ (sRM c) c fullShare (V m c main_arg1) -∗ at_ (Memref.whole main_arg2) c fullShare (V m c main_arg2) -∗ (∃ f, at_ (phM 0) c fullShare f) -∗
        (∃ f, at_ (phM 1) c fullShare f) -∗ (∃ f, at_ ((Memref.whole cc0_scratch3).slice (hlf 0) (fun _ => rfl)) c fullShare f) -∗ (∃ f, at_ ((Memref.whole cc0_scratch3).slice (hlf 1) (fun _ => rfl)) c fullShare f) -∗
        (∃ f, at_ (Memref.whole cc0_scratch4) c fullShare f) -∗ (∃ f, at_ (Memref.whole cc0_scratch5) c fullShare f) -∗ (∃ f, at_ (Memref.whole cc0_scratch1) c fullShare f) -∗
        (∃ f, at_ gM c fullShare f) -∗ (∃ f, at_ (outM (w5 c) (fun _ => rfl)) c fullShare f) -∗ (∃ f, at_ (outM (w6 c) (fun _ => rfl)) c fullShare f) -∗
        (∃ f, at_ (outM (w7 c) (fun _ => rfl)) c fullShare f) -∗ (∃ f, at_ (oqM 0) c fullShare f) -∗ (∃ f, at_ (nbM 0) c fullShare f) -∗
        (∃ f, at_ (outM (w4 c 0) (fun _ => rfl)) c fullShare f) -∗ (∃ f, at_ (oqM 1) c fullShare f) -∗ (∃ f, at_ (nbM 1) c fullShare f) -∗
        (∃ f, at_ (outM (w4 c 1) (fun _ => rfl)) c fullShare f) -∗ (∃ f, at_ (oqM 2) c fullShare f) -∗ (∃ f, at_ (nbM 2) c fullShare f) -∗
        (∃ f, at_ (outM (w4 c 2) (fun _ => rfl)) c fullShare f) -∗ (∃ f, at_ (oqM 3) c fullShare f) -∗ (∃ f, at_ (nbM 3) c fullShare f) -∗
        (∃ f, at_ (outM (w4 c 3) (fun _ => rfl)) c fullShare f) -∗ semVal ((c : Thread nD τ), .dma (lsem 0)) 0 -∗ semVal ((c : Thread nD τ), .dma (lsem 1)) 0 -∗
        semVal ((c : Thread nD τ), .dma (lsem 2)) 0 -∗ semVal ((c : Thread nD τ), .dma (lsem 3)) 0 -∗ semVal ((c : Thread nD τ), .dma (lsem 4)) 0 -∗
        semVal ((c : Thread nD τ), .dma (lsem 5)) 0 -∗ semVal ((c : Thread nD τ), .dma (lsem 6)) 0 -∗ semVal ((c : Thread nD τ), .dma (lsem 7)) 0 -∗
        semVal ((c : Thread nD τ), .dma (lsem 8)) 0 -∗ semVal ((c : Thread nD τ), .dma (lsem 9)) 0 -∗
        (semVal (rdyC 0 c) 0 -∗ at_ (sPM c 0) c (qs 0) (V m c main_arg0) -∗ semVal ((c : Thread nD τ), .dma (lsem 4)) 0 -∗
            at_ (sPM c 1) c (qs 1) (V m c main_arg0) -∗ semVal ((c : Thread nD τ), .dma (lsem 5)) 0 -∗ at_ (sQM c) c (qs 2) (V m c main_arg0) -∗
            at_ (sRM c) c fullShare (V m c main_arg1) -∗ at_ (Memref.whole main_arg2) c fullShare (V m c main_arg2) -∗ semVal ((c : Thread nD τ), .dma (lsem 3)) 0 -∗
            semVal (rcvC 0 0 c) 0 -∗ at_ (cmM 0) c fullShare (cmW m c) -∗ semVal (rdyC 1 c) 0 -∗
            semVal (rdyC 2 c) 0 -∗ semVal (rcvC 0 1 c) 0 -∗ at_ (cmM 1) c fullShare (cmW m c) -∗
            semVal (rcvC 0 2 c) 0 -∗ at_ (cmM 2) c fullShare (cmW m c) -∗ semVal (rcvC 0 3 c) 0 -∗
            at_ (cmM 3) c fullShare (cmW m c) -∗ at_ (Memref.whole cc0_scratch1) c fullShare (acW m c) -∗ at_ gvM c fullShare (gvW m c) -∗
            semVal (rcvC 1 0 c) 0 -∗ semVal (rcvC 1 1 c) 0 -∗ semVal (rcvC 1 2 c) 0 -∗
            semVal (rcvC 1 3 c) 0 -∗ at_ ((Memref.whole cc0_scratch8).slice (pln 0) (fun _ => rfl)) c fullShare (rxW m c) -∗ semVal (rcvC 2 0 c) 0 -∗
            semVal (rcvC 2 1 c) 0 -∗ semVal (rcvC 2 2 c) 0 -∗ semVal (rcvC 2 3 c) 0 -∗
            at_ ((Memref.whole cc0_scratch8).slice (pln 1) (fun _ => rfl)) c fullShare (rxW m c) -∗ semVal (rcvC 3 0 c) 0 -∗ semVal (rcvC 3 1 c) 0 -∗
            semVal (rcvC 3 2 c) 0 -∗ semVal (rcvC 3 3 c) 0 -∗ at_ ((Memref.whole cc0_scratch8).slice (pln 2) (fun _ => rfl)) c fullShare (rxW m c) -∗
            at_ (outM (w5 c) (fun _ => rfl)) c fullShare (outW m c) -∗ at_ (Memref.whole cc0_scratch2) c fullShare (wdW m 0 c) -∗ semVal ((c : Thread nD τ), .dma (lsem 0)) 0 -∗
            at_ (outM (w6 c) (fun _ => rfl)) c fullShare (outW m c) -∗ at_ (Memref.whole cc0_scratch4) c fullShare (wdW m 1 c) -∗ semVal ((c : Thread nD τ), .dma (lsem 1)) 0 -∗
            at_ (outM (w7 c) (fun _ => rfl)) c fullShare (outW m c) -∗ at_ (Memref.whole cc0_scratch5) c fullShare (wdW m 2 c) -∗ semVal ((c : Thread nD τ), .dma (lsem 2)) 0 -∗
            at_ (outM (w4 c 0) (fun _ => rfl)) c fullShare (outW m c) -∗ at_ (oqM 0) c fullShare (nfW m c) -∗ semVal ((c : Thread nD τ), .dma (lsem 6)) 0 -∗
            at_ (outM (w4 c 1) (fun _ => rfl)) c fullShare (outW m c) -∗ at_ (oqM 1) c fullShare (nfW m c) -∗ semVal ((c : Thread nD τ), .dma (lsem 7)) 0 -∗
            at_ (outM (w4 c 2) (fun _ => rfl)) c fullShare (outW m c) -∗ at_ (oqM 2) c fullShare (nfW m c) -∗ semVal ((c : Thread nD τ), .dma (lsem 8)) 0 -∗
            at_ (outM (w4 c 3) (fun _ => rfl)) c fullShare (outW m c) -∗ at_ (oqM 3) c fullShare (nfW m c) -∗ semVal ((c : Thread nD τ), .dma (lsem 9)) 0 -∗
            semVal (sndC 0 0 c) 0 -∗ sndPay m 0 0 c -∗ semVal (sndC 0 1 c) 0 -∗
            sndPay m 0 1 c -∗ semVal (sndC 0 2 c) 0 -∗ sndPay m 0 2 c -∗
            semVal (sndC 0 3 c) 0 -∗ sndPay m 0 3 c -∗ semVal (sndC 1 0 c) 0 -∗
            sndPay m 1 0 c -∗ semVal (sndC 2 0 c) 0 -∗ sndPay m 2 0 c -∗
            semVal (sndC 3 0 c) 0 -∗ sndPay m 3 0 c -∗ semVal (sndC 1 1 c) 0 -∗
            sndPay m 1 1 c -∗ semVal (sndC 2 1 c) 0 -∗ sndPay m 2 1 c -∗
            semVal (sndC 3 1 c) 0 -∗ sndPay m 3 1 c -∗ semVal (sndC 1 2 c) 0 -∗
            sndPay m 1 2 c -∗ ow c 19 -∗ semVal (sndC 2 2 c) 0 -∗
            sndPay m 2 2 c -∗ semVal (sndC 3 2 c) 0 -∗ sndPay m 3 2 c -∗
            semVal (sndC 1 3 c) 0 -∗ sndPay m 1 3 c -∗ semVal (sndC 2 3 c) 0 -∗
            sndPay m 2 3 c -∗ semVal (sndC 3 3 c) 0 -∗ sndPay m 3 3 c -∗
            Q ⟨⟩)
        -∗ Wp c (on cc0_body) Q) := by
  simp only [on, cc0_body_eq_skeleton]; unfold cc0_body_skel
  unfold Wp
  iintro #HR HO HRP0 HTY0 HCY0 HAY0 HRP1 HTY1 HCY1 HAY1 HRP2 HTY2 HCY2 HAY2 HTS00 HTR00 HCV00 HAV00 HAS00 HTS01 HTR01 HCV01 HAV01 HAS01 HTS02 HTR02 HCV02 HAV02 HAS02 HTS03 HTR03 HCV03 HAV03 HAS03 HTS10 HTR10 HCV10 HAV10 HAS10 HTS11 HTR11 HCV11 HAV11 HAS11 HTS12 HTR12 HCV12 HAV12 HAS12 HTS13 HTR13 HCV13 HAV13 HAS13 HTS20 HTR20 HCV20 HAV20 HAS20 HTS21 HTR21 HCV21 HAV21 HAS21 HTS22 HTR22 HCV22 HAV22 HAS22 HTS23 HTR23 HCV23 HAV23 HAS23 HTS30 HTR30 HCV30 HAV30 HAS30 HTS31 HTR31 HCV31 HAV31 HAS31 HTS32 HTR32 HCV32 HAV32 HAS32 HTS33 HTR33 HCV33 HAV33 HAS33 HP0 HP1 HQ HR1 HG Hph0 Hph1 Hpb0 Hpb1 Hpm Hrq Hac Hgv Ho5 Ho6 Ho7 Hoq0 Hnb0 Ho40 Hoq1 Hnb1 Ho41 Hoq2 Hnb2 Ho42 Hoq3 Hnb3 Ho43 HZL0 HZL1 HZL2 HZL3 HZL4 HZL5 HZL6 HZL7 HZL8 HZL9 Hk
  rw [wp_bind]
  iapply (part1 m c qs _) $$ HP0 Hph0 HZL4
  iintro %r %hr HFL4
  obtain ⟨d0, v2, v5, v8, v12, v13, v14, v15, v16⟩ := r
  have hr' : c = d0 := hr.symm
  subst hr'
  dsimp only
  rw [wp_bind]
  iapply (part2 m K c qs _ _ _ _ _ _) $$ HR HP1 Hph1 HZL5 HQ Hpm HZL1 HR1 Hrq HZL2 HG Hgv HZL3 HO HTY0 HRP0 HTY1 HRP1
  iintro %r %hr HFL5 HFL1 HFL2 HFL3 HO
  obtain ⟨v44, v61, c0⟩ := r
  have hr' : v44 = SemArray.scalar (rdy 0) := hr
  subst hr'
  dsimp only
  rw [wp_bind]
  iapply (part3 m K c qs _ _ _ _ _ _ _ _) $$ HR HO HTY2 HRP2 HCY0 HAY0 HFL4 Hpb0 HTS00 HTR00
  iintro HO HZY0 HSL01 HSL02 HSL03 HSL10 HSL11 HSL12 HSL13 Hph0 HP0 HZL4 Hps1 HCS00
  rw [wp_bind]
  iapply (part4 m K c qs _ _ _ _) $$ HR Hps1 HSL01 HO HTS01 HTR01 HFL5 Hpb1
  iintro HO HCS01 Hph1 HP1 HZL5 Hps2 Hps3
  rw [wp_bind]
  iapply (part5 m K c qs _ _ _ _) $$ HR Hps2 HSL02 HO HTS02 HTR02 Hps3 HSL03 HTS03 HTR03 HFL1 HFL2 HFL3
  iintro HO HCS02 HCS03 Hpm HQ HZL1 Hrq HR1 HZL2 Hgv HG HZL3
  rw [wp_bind]
  iapply (part6 m K c _ _ _ _) $$ HR Hrq Hac HCV00 HO HAV00 HCY1 HAY1 HCY2 HAY2
  iintro Hrq Hac HO HZV00 HRV00 HZY1 HSL20 HSL21 HSL22 HSL23 HZY2 HSL30 HSL31 HSL32 HSL33
  rw [wp_bind]
  iapply (part7 m K c _ _ _ _ _) $$ HR Hgv Hoq0 Hnb0 Ho40 HZL6 HSL10 HO HTS10 HTR10
  iintro Hgv HNS20 HNS30 HFL6 HO HCS10
  rw [wp_bind]
  iapply (part8 m K c _ _ _ _ _ _) $$ HR HNS20 HSL20 HO HTS20 HTR20 HNS30 HSL30 HTS30 HTR30
  iintro %r8 HO HCS20 HCS30
  try dsimp only
  rw [wp_bind]
  iapply (part9 m K c _ _ _ _ _) $$ HR HCV01 HO HAV01 Hac Hgv Hoq1 Hnb1
  iintro HO HZV01 HRV01 Hac Hgv Hoq1 HNS11 HNS21 HNS31
  rw [wp_bind]
  iapply (part10 m K c _ _ _ _ _ _) $$ HR Hoq1 Ho41 HZL7 HNS11 HSL11 HO HTS11 HTR11
  iintro HFL7 HO HCS11
  rw [wp_bind]
  iapply (part11 m K c _ _ _ _ _ _) $$ HR HNS21 HSL21 HO HTS21 HTR21 HNS31 HSL31 HTS31 HTR31 HCV02 HAV02 Hac
  iintro HO HCS21 HCS31 HZV02 HRV02 Hac
  rw [wp_bind]
  iapply (part12 m c _ _ _ _ _) $$ Hgv Hoq2 Hnb2 Ho42 HZL8
  iintro Hgv HNS12 HNS22 HNS32 HFL8
  rw [wp_bind]
  iapply (part13 m K c _ _ _ _ _ _) $$ HR HNS12 HSL12 HO HTS12 HTR12 HNS22 HSL22 HTS22 HTR22
  iintro HO HCS12 HCS22
  rw [wp_bind]
  iapply (part14 m K c _ _ _ _) $$ HR HNS32 HSL32 HO HTS32 HTR32 HCV03 HAV03 Hac Hgv Hoq3
  iintro HO HCS32 HZV03 HRV03 Hac Hgv Hoq3
  rw [wp_bind]
  iapply (part15 m K c _ _ _ _ _ _ _) $$ HR Hnb3 Hoq3 Ho43 HZL9 HSL13 HO HTS13 HTR13
  iintro HNS23 HNS33 HFL9 HO HCS13
  rw [wp_bind]
  iapply (part16 m K c _ _ _ _ _ _ _) $$ HR HNS23 HSL23 HO HTS23 HTR23 HNS33 HSL33 HTS33 HTR33
  iintro %r16 HO HCS23 HCS33
  try dsimp only
  rw [wp_bind]
  iapply (part17 m K c _ _ _ _) $$ HR HCV10 HO HAV10 HCV11 HAV11
  iintro HO HZV10 HRV10 HZV11 HRV11
  rw [wp_bind]
  iapply (part18 m K c _ _ _ _ _) $$ HR HCV12 HO HAV12 HCV13 HAV13 Hph0 Hph1 HRV10 HRV11 Ho5 HZL0
  iintro %r18 HO HZV12 HZV13 Hrx0 HFL0
  try dsimp only
  rw [wp_bind]
  iapply (part19 m K c _ _ _ _ _) $$ HR HCV20 HO HAV20 HCV21 HAV21
  iintro HO HZV20 HRV20 HZV21 HRV21
  rw [wp_bind]
  iapply (part20 m K c _ _ _ _ _) $$ HR HCV22 HO HAV22 HCV23 HAV23 HRV20 HRV21 Hpm Ho6 HZL1
  iintro HO HZV22 HZV23 Hrx1 HFL1
  rw [wp_bind]
  iapply (part21 m K c _ _ _ _) $$ HR HCV30 HO HAV30 HCV31 HAV31
  iintro %r21 HO HZV30 HRV30 HZV31 HRV31
  try dsimp only
  rw [wp_bind]
  iapply (part22 m K c _ _ _ _ _ _) $$ HR HCV32 HO HAV32 HCV33 HAV33 HRV30 HRV31 Hrq
  iintro HO HZV32 HZV33 Hrx2 Hrq
  rw [wp_bind]
  iapply (part23 m K c _) $$ HR Hrq Ho7 HZL2 HFL0 HO HFL1 HFL6 HFL7 HFL8 HFL9
  iintro HO Ho5 Hps HZL0 Ho6 Hpm HZL1 Ho7 Hrq HZL2 Ho40 Hoq0 HZL6 Ho41 Hoq1 HZL7 Ho42 Hoq2 HZL8 Ho43 Hoq3 HZL9
  rw [wp_bind]
  iapply (part24 m K c _) $$ HR HCS00 HO HAS00 HCS01 HAS01 HCS02 HAS02 HCS03 HAS03
  iintro HO HZS00 HSV00 HZS01 HSV01 HZS02 HSV02 HZS03 HSV03
  rw [wp_bind]
  iapply (part25 m K c _) $$ HR HCS10 HO HAS10 HCS20 HAS20 HCS30 HAS30 HCS11 HAS11
  iintro HO HZS10 HSV10 HZS20 HSV20 HZS30 HSV30 HZS11 HSV11
  rw [wp_bind]
  iapply (part26 m K c _) $$ HR HCS21 HO HAS21 HCS31 HAS31 HCS12 HAS12
  iintro HO HZS21 HSV21 HZS31 HSV31 HZS12 HSV12
  rw [wp_bind]
  iapply (part27 m K c _) $$ HR HCS22 HO HAS22 HCS32 HAS32 HCS13 HAS13 HCS23 HAS23
  iintro HO HZS22 HSV22 HZS32 HSV32 HZS13 HSV13 HZS23 HSV23
  simp only [Prog.lift, Prog.bind_op, Prog.bind_ret, Prog.pure_eq_ret]
  iapply (cur4 (st_waitS (dstw := nbM 3) m K c 3 3 19 (above_loc c 19 (by decide)) rfl)) $$ HR HCS33 HO HAS33
  iintro ⟨HO, HZS33, HSV33⟩
  iapply wp_done
  iapply Hk $$ HZY0 HP0 HZL4 HP1 HZL5 HQ HR1 HG HZL3 HZV00 HRV00 HZY1 HZY2 HZV01 HRV01 HZV02 HRV02 HZV03 HRV03 Hac Hgv HZV10 HZV11 HZV12 HZV13 Hrx0 HZV20 HZV21 HZV22 HZV23 Hrx1 HZV30 HZV31 HZV32 HZV33 Hrx2 Ho5 Hps HZL0 Ho6 Hpm HZL1 Ho7 Hrq HZL2 Ho40 Hoq0 HZL6 Ho41 Hoq1 HZL7 Ho42 Hoq2 HZL8 Ho43 Hoq3 HZL9 HZS00 HSV00 HZS01 HSV01 HZS02 HSV02 HZS03 HSV03 HZS10 HSV10 HZS20 HSV20 HZS30 HSV30 HZS11 HSV11 HZS21 HSV21 HZS31 HSV31 HZS12 HSV12 HO HZS22 HSV22 HZS32 HSV32 HZS13 HSV13 HZS23 HSV23 HZS33 HSV33

end Cert.KernelIdeal.NormRun

end
-- ==== Proof.Ends.lean ====
/-
A device's run from end to end: what it is given at the launch, cut into the pieces the body takes, and the pieces the body
leaves, put together again.
-/
module

public import proofs.«01_k».proof.Proof.Body

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ)

/-! ## Whole buffers -/

theorem pt_at (c : Dev nD) (b : Ref sig .tc) (f : b.ty.Contents (Elt F)) : (pt c b f : sProp 𝕄) = at_ (Memref.whole b) c fullShare f := by
  show _ = ((c : Thread nD τ).loc b ↦[(View.whole b).set]{fullShare} f : sProp 𝕄)
  rw [View.set_whole]

/-- A view's elements out of a whole buffer, and back. -/
theorem borrow {sp : Space} {s : Shape} {e : EltTy} (M : Memref sig .tc sp s e) (c : Dev nD) (q : PosShare TreeShare) (f : M.view.ty.Contents (Elt F)) :
    (M.view.loc (c : Thread nD τ) ↦{q} f : sProp 𝕄) ⊢ iprop(at_ M c q f ∗ (at_ M c q f -∗ M.view.loc (c : Thread nD τ) ↦{q} f)) := by
  iintro H
  ihave H := (pointsTo_split_subset (Finset.subset_univ M.view.set)).1 $$ H
  icases H with ⟨H1, H2⟩
  isplitl [H1]; · iexact H1
  iintro H1
  iapply (pointsTo_split_subset (Finset.subset_univ M.view.set)).2
  isplitl [H1] <;> iassumption

theorem ex_at {sp : Space} {s : Shape} {e : EltTy} (M : Memref sig .tc sp s e) (c : Dev nD) (q : PosShare TreeShare) (f : M.view.ty.Contents (Elt F)) :
    (at_ M c q f : sProp 𝕄) ⊢ iprop(∃ f, at_ M c q f) := by
  iintro H; iexists f; iexact H
theorem ex_pt (c : Dev nD) (b : Ref sig .tc) (f : b.ty.Contents (Elt F)) : (at_ (Memref.whole b) c fullShare f : sProp 𝕄) ⊢ iprop(∃ f, pt c b f) := by
  rw [← pt_at]; iintro H; iexists f; iexact H

/-- The scale's buffer is the slice the program loads it by. -/
theorem gv_whole (c : Dev nD) (f : S1x512.Idx → Elt F .f32) : (at_ (Memref.whole cc0_scratch9) c fullShare f : sProp 𝕄) = at_ gvM c fullShare f := by
  refine congrArg (fun S => ((c : Thread nD τ).loc cc0_scratch9 ↦[S]{fullShare} f : sProp 𝕄)) ?_
  refine (View.set_whole _).trans (Eq.trans ?_ (View.set_slice_whole _ _).symm)
  ext i
  rw [Rect.mem_set_unit]
  have h0 : (i 0).val < 1 := (i 0).isLt
  have h1 : (i 1).val < 512 := (i 1).isLt
  simp only [Finset.mem_univ, true_iff]
  intro a
  fin_cases a
  · exact ⟨Nat.zero_le _, by show (i 0).val < 0 + 1; omega⟩
  · exact ⟨Nat.zero_le _, by show (i 1).val < 0 + 512; omega⟩

/-- The shares of the first argument the three loads borrow. -/
def qs3 : Fin 3 → PosShare TreeShare := shares3 fullShare

/-- The first argument, lent to the three loads. -/
theorem lend0 (c : Dev nD) (f : main_arg0.ty.Contents (Elt F)) : (pt c main_arg0 f : sProp 𝕄)
    ⊢ iprop(at_ (sPM c 0) c (qs3 0) f ∗ at_ (sPM c 1) c (qs3 1) f ∗ at_ (sQM c) c (qs3 2) f
        ∗ (at_ (sPM c 0) c (qs3 0) f -∗ at_ (sPM c 1) c (qs3 1) f -∗ at_ (sQM c) c (qs3 2) f -∗ pt c main_arg0 f)) := by
  iintro H
  ihave H := (pointsTo_thirds (ℓ := (c : Thread nD τ).loc main_arg0) (I := Finset.univ) fullShare f).1 $$ H
  icases H with ⟨H0, H1, H2⟩
  ihave H0 := (show ((c : Thread nD τ).loc main_arg0 ↦{shares3 fullShare 0} f : sProp 𝕄) ⊢ iprop(at_ (sPM c 0) c (qs3 0) f ∗ (at_ (sPM c 0) c (qs3 0) f -∗ (c : Thread nD τ).loc main_arg0 ↦{shares3 fullShare 0} f)) from borrow (sPM c 0) c (qs3 0) f) $$ H0
  ihave H1 := (show ((c : Thread nD τ).loc main_arg0 ↦{shares3 fullShare 1} f : sProp 𝕄) ⊢ iprop(at_ (sPM c 1) c (qs3 1) f ∗ (at_ (sPM c 1) c (qs3 1) f -∗ (c : Thread nD τ).loc main_arg0 ↦{shares3 fullShare 1} f)) from borrow (sPM c 1) c (qs3 1) f) $$ H1
  ihave H2 := (show ((c : Thread nD τ).loc main_arg0 ↦{shares3 fullShare 2} f : sProp 𝕄) ⊢ iprop(at_ (sQM c) c (qs3 2) f ∗ (at_ (sQM c) c (qs3 2) f -∗ (c : Thread nD τ).loc main_arg0 ↦{shares3 fullShare 2} f)) from borrow (sQM c) c (qs3 2) f) $$ H2
  icases H0 with ⟨H0, B0⟩
  icases H1 with ⟨H1, B1⟩
  icases H2 with ⟨H2, B2⟩
  isplitl [H0]; · iexact H0
  isplitl [H1]; · iexact H1
  isplitl [H2]; · iexact H2
  iintro H0 H1 H2
  ihave H0 := B0 $$ H0
  ihave H1 := B1 $$ H1
  ihave H2 := B2 $$ H2
  iapply (pointsTo_thirds (ℓ := (c : Thread nD τ).loc main_arg0) (I := Finset.univ) fullShare f).2
  isplitl [H0]; · iexact H0
  isplitl [H1] <;> iassumption

/-- The second, lent to its load. -/
theorem lend1 (c : Dev nD) (f : main_arg1.ty.Contents (Elt F)) : (pt c main_arg1 f : sProp 𝕄)
    ⊢ iprop(at_ (sRM c) c fullShare f ∗ (at_ (sRM c) c fullShare f -∗ pt c main_arg1 f)) := borrow (sRM c) c fullShare f

/-! ## The buffers, cut and joined -/

theorem cut_cm (c : Dev nD) : (iprop(∃ f, pt c cc0_scratch0 f) : sProp 𝕄) ⊢ iprop((∃ f, at_ (cmM 0) c fullShare f) ∗ (∃ f, at_ (cmM 1) c fullShare f) ∗ (∃ f, at_ (cmM 2) c fullShare f) ∗ (∃ f, at_ (cmM 3) c fullShare f)) := by
  iintro ⟨%f, H⟩
  ihave H := (Entails.of_eq ((pt_at c cc0_scratch0 f).trans (at_chk4 (Memref.whole cc0_scratch0) c fullShare f))) $$ H
  icases H with ⟨H0, H1, H2, H3⟩
  ihave H0 := (ex_at (cmM 0) c fullShare f) $$ H0
  ihave H1 := (ex_at (cmM 1) c fullShare f) $$ H1
  ihave H2 := (ex_at (cmM 2) c fullShare f) $$ H2
  ihave H3 := (ex_at (cmM 3) c fullShare f) $$ H3
  isplitl [H0]; · iexact H0
  isplitl [H1]; · iexact H1
  isplitl [H2]; · iexact H2
  iexact H3

theorem cut_ac (c : Dev nD) : (iprop(∃ f, pt c cc0_scratch1 f) : sProp 𝕄) ⊢ iprop((∃ f, at_ (Memref.whole cc0_scratch1) c fullShare f)) := by
  iintro ⟨%f, H⟩
  ihave H := (Entails.of_eq ((pt_at c cc0_scratch1 f))) $$ H
  ihave H := (ex_at (Memref.whole cc0_scratch1) c fullShare f) $$ H
  iexact H

theorem cut_ps (c : Dev nD) : (iprop(∃ f, pt c cc0_scratch2 f) : sProp 𝕄) ⊢ iprop((∃ f, at_ (phM 0) c fullShare f) ∗ (∃ f, at_ (phM 1) c fullShare f)) := by
  iintro ⟨%f, H⟩
  ihave H := (Entails.of_eq ((pt_at c cc0_scratch2 f).trans (at_hlf2 (Memref.whole cc0_scratch2) c fullShare f))) $$ H
  icases H with ⟨H0, H1⟩
  ihave H0 := (ex_at (phM 0) c fullShare f) $$ H0
  ihave H1 := (ex_at (phM 1) c fullShare f) $$ H1
  isplitl [H0]; · iexact H0
  iexact H1

theorem cut_pb (c : Dev nD) : (iprop(∃ f, pt c cc0_scratch3 f) : sProp 𝕄) ⊢ iprop((∃ f, at_ ((Memref.whole cc0_scratch3).slice (hlf 0) (fun _ => rfl)) c fullShare f) ∗ (∃ f, at_ ((Memref.whole cc0_scratch3).slice (hlf 1) (fun _ => rfl)) c fullShare f)) := by
  iintro ⟨%f, H⟩
  ihave H := (Entails.of_eq ((pt_at c cc0_scratch3 f).trans (at_hlf2 (Memref.whole cc0_scratch3) c fullShare f))) $$ H
  icases H with ⟨H0, H1⟩
  ihave H0 := (ex_at ((Memref.whole cc0_scratch3).slice (hlf 0) (fun _ => rfl)) c fullShare f) $$ H0
  ihave H1 := (ex_at ((Memref.whole cc0_scratch3).slice (hlf 1) (fun _ => rfl)) c fullShare f) $$ H1
  isplitl [H0]; · iexact H0
  iexact H1

theorem cut_pm (c : Dev nD) : (iprop(∃ f, pt c cc0_scratch4 f) : sProp 𝕄) ⊢ iprop((∃ f, at_ (Memref.whole cc0_scratch4) c fullShare f)) := by
  iintro ⟨%f, H⟩
  ihave H := (Entails.of_eq ((pt_at c cc0_scratch4 f))) $$ H
  ihave H := (ex_at (Memref.whole cc0_scratch4) c fullShare f) $$ H
  iexact H

theorem cut_rq (c : Dev nD) : (iprop(∃ f, pt c cc0_scratch5 f) : sProp 𝕄) ⊢ iprop((∃ f, at_ (Memref.whole cc0_scratch5) c fullShare f)) := by
  iintro ⟨%f, H⟩
  ihave H := (Entails.of_eq ((pt_at c cc0_scratch5 f))) $$ H
  ihave H := (ex_at (Memref.whole cc0_scratch5) c fullShare f) $$ H
  iexact H

theorem cut_oq (c : Dev nD) : (iprop(∃ f, pt c cc0_scratch6 f) : sProp 𝕄) ⊢ iprop((∃ f, at_ (oqM 0) c fullShare f) ∗ (∃ f, at_ (oqM 1) c fullShare f) ∗ (∃ f, at_ (oqM 2) c fullShare f) ∗ (∃ f, at_ (oqM 3) c fullShare f)) := by
  iintro ⟨%f, H⟩
  ihave H := (Entails.of_eq ((pt_at c cc0_scratch6 f).trans (at_chk4 (Memref.whole cc0_scratch6) c fullShare f))) $$ H
  icases H with ⟨H0, H1, H2, H3⟩
  ihave H0 := (ex_at (oqM 0) c fullShare f) $$ H0
  ihave H1 := (ex_at (oqM 1) c fullShare f) $$ H1
  ihave H2 := (ex_at (oqM 2) c fullShare f) $$ H2
  ihave H3 := (ex_at (oqM 3) c fullShare f) $$ H3
  isplitl [H0]; · iexact H0
  isplitl [H1]; · iexact H1
  isplitl [H2]; · iexact H2
  iexact H3

theorem cut_nb (c : Dev nD) : (iprop(∃ f, pt c cc0_scratch7 f) : sProp 𝕄) ⊢ iprop((∃ f, at_ (nbM 0) c fullShare f) ∗ (∃ f, at_ (nbM 1) c fullShare f) ∗ (∃ f, at_ (nbM 2) c fullShare f) ∗ (∃ f, at_ (nbM 3) c fullShare f)) := by
  iintro ⟨%f, H⟩
  ihave H := (Entails.of_eq ((pt_at c cc0_scratch7 f).trans (at_chk4 (Memref.whole cc0_scratch7) c fullShare f))) $$ H
  icases H with ⟨H0, H1, H2, H3⟩
  ihave H0 := (ex_at (nbM 0) c fullShare f) $$ H0
  ihave H1 := (ex_at (nbM 1) c fullShare f) $$ H1
  ihave H2 := (ex_at (nbM 2) c fullShare f) $$ H2
  ihave H3 := (ex_at (nbM 3) c fullShare f) $$ H3
  isplitl [H0]; · iexact H0
  isplitl [H1]; · iexact H1
  isplitl [H2]; · iexact H2
  iexact H3

theorem cut_gv (c : Dev nD) : (iprop(∃ f, pt c cc0_scratch9 f) : sProp 𝕄) ⊢ iprop((∃ f, at_ gM c fullShare f)) := by
  iintro ⟨%f, H⟩
  ihave H := (Entails.of_eq ((pt_at c cc0_scratch9 f).trans ((gv_whole c f).trans (gv_sq c f).symm))) $$ H
  ihave H := (ex_at gM c fullShare f) $$ H
  iexact H

theorem cut_out (c : Dev nD) : (iprop(∃ f, pt c main_v1 f) : sProp 𝕄) ⊢ iprop((∃ f, at_ (outM (w4 c 0) (fun _ => rfl)) c fullShare f) ∗ (∃ f, at_ (outM (w4 c 1) (fun _ => rfl)) c fullShare f) ∗ (∃ f, at_ (outM (w4 c 2) (fun _ => rfl)) c fullShare f) ∗ (∃ f, at_ (outM (w4 c 3) (fun _ => rfl)) c fullShare f) ∗ (∃ f, at_ (outM (w5 c) (fun _ => rfl)) c fullShare f) ∗ (∃ f, at_ (outM (w6 c) (fun _ => rfl)) c fullShare f) ∗ (∃ f, at_ (outM (w7 c) (fun _ => rfl)) c fullShare f)) := by
  iintro ⟨%f, H⟩
  ihave H := (Entails.of_eq ((pt_at c main_v1 f).trans (at_out7 c fullShare f))) $$ H
  icases H with ⟨H0, H1, H2, H3, H4, H5, H6⟩
  ihave H0 := (ex_at (outM (w4 c 0) (fun _ => rfl)) c fullShare f) $$ H0
  ihave H1 := (ex_at (outM (w4 c 1) (fun _ => rfl)) c fullShare f) $$ H1
  ihave H2 := (ex_at (outM (w4 c 2) (fun _ => rfl)) c fullShare f) $$ H2
  ihave H3 := (ex_at (outM (w4 c 3) (fun _ => rfl)) c fullShare f) $$ H3
  ihave H4 := (ex_at (outM (w5 c) (fun _ => rfl)) c fullShare f) $$ H4
  ihave H5 := (ex_at (outM (w6 c) (fun _ => rfl)) c fullShare f) $$ H5
  ihave H6 := (ex_at (outM (w7 c) (fun _ => rfl)) c fullShare f) $$ H6
  isplitl [H0]; · iexact H0
  isplitl [H1]; · iexact H1
  isplitl [H2]; · iexact H2
  isplitl [H3]; · iexact H3
  isplitl [H4]; · iexact H4
  isplitl [H5]; · iexact H5
  iexact H6

theorem cut_rx (c : Dev nD) : (iprop(∃ f, pt c cc0_scratch8 f) : sProp 𝕄) ⊢ iprop(iprop((∃ f, at_ (rxM 0 0) c fullShare f) ∗ (∃ f, at_ (rxM 0 1) c fullShare f) ∗ (∃ f, at_ (rxM 0 2) c fullShare f) ∗ (∃ f, at_ (rxM 0 3) c fullShare f)) ∗ iprop((∃ f, at_ (rxM 1 0) c fullShare f) ∗ (∃ f, at_ (rxM 1 1) c fullShare f) ∗ (∃ f, at_ (rxM 1 2) c fullShare f) ∗ (∃ f, at_ (rxM 1 3) c fullShare f)) ∗ iprop((∃ f, at_ (rxM 2 0) c fullShare f) ∗ (∃ f, at_ (rxM 2 1) c fullShare f) ∗ (∃ f, at_ (rxM 2 2) c fullShare f) ∗ (∃ f, at_ (rxM 2 3) c fullShare f))) := by
  iintro ⟨%f, H⟩
  ihave H := (Entails.of_eq ((pt_at c cc0_scratch8 f).trans (at_pln3 (Memref.whole cc0_scratch8) c fullShare f))) $$ H
  icases H with ⟨P0, P1, P2⟩
  ihave P0 := (Entails.of_eq (at_rxc4 (Memref.whole cc0_scratch8) c fullShare f 0)) $$ P0
  icases P0 with ⟨H00, H01, H02, H03⟩
  ihave H00 := (ex_at (rxM 0 0) c fullShare f) $$ H00
  ihave H01 := (ex_at (rxM 0 1) c fullShare f) $$ H01
  ihave H02 := (ex_at (rxM 0 2) c fullShare f) $$ H02
  ihave H03 := (ex_at (rxM 0 3) c fullShare f) $$ H03
  ihave P1 := (Entails.of_eq (at_rxc4 (Memref.whole cc0_scratch8) c fullShare f 1)) $$ P1
  icases P1 with ⟨H10, H11, H12, H13⟩
  ihave H10 := (ex_at (rxM 1 0) c fullShare f) $$ H10
  ihave H11 := (ex_at (rxM 1 1) c fullShare f) $$ H11
  ihave H12 := (ex_at (rxM 1 2) c fullShare f) $$ H12
  ihave H13 := (ex_at (rxM 1 3) c fullShare f) $$ H13
  ihave P2 := (Entails.of_eq (at_rxc4 (Memref.whole cc0_scratch8) c fullShare f 2)) $$ P2
  icases P2 with ⟨H20, H21, H22, H23⟩
  ihave H20 := (ex_at (rxM 2 0) c fullShare f) $$ H20
  ihave H21 := (ex_at (rxM 2 1) c fullShare f) $$ H21
  ihave H22 := (ex_at (rxM 2 2) c fullShare f) $$ H22
  ihave H23 := (ex_at (rxM 2 3) c fullShare f) $$ H23
  isplitl [H00 H01 H02 H03]
  · isplitl [H00]; · iexact H00
    isplitl [H01]; · iexact H01
    isplitl [H02]; · iexact H02
    iexact H03
  isplitl [H10 H11 H12 H13]
  · isplitl [H10]; · iexact H10
    isplitl [H11]; · iexact H11
    isplitl [H12]; · iexact H12
    iexact H13
  isplitl [H20]; · iexact H20
  isplitl [H21]; · iexact H21
  isplitl [H22]; · iexact H22
  iexact H23

theorem join_cm (c : Dev nD) (f : cc0_scratch0.ty.Contents (Elt F)) : iprop(at_ (cmM 0) c fullShare f ∗ at_ (cmM 1) c fullShare f ∗ at_ (cmM 2) c fullShare f ∗ at_ (cmM 3) c fullShare f) ⊢ (iprop(∃ f, pt c cc0_scratch0 f) : sProp 𝕄) :=
  (Entails.of_eq ((at_chk4 (Memref.whole cc0_scratch0) c fullShare f).symm)).trans (ex_pt c cc0_scratch0 f)

theorem join_pb (c : Dev nD) (f : cc0_scratch3.ty.Contents (Elt F)) : iprop(at_ (psM 0) c fullShare f ∗ at_ (psM 1) c fullShare f ∗ at_ (psM 2) c fullShare f ∗ at_ (psM 3) c fullShare f) ⊢ (iprop(∃ f, pt c cc0_scratch3 f) : sProp 𝕄) :=
  (Entails.of_eq ((at_chk4 (Memref.whole cc0_scratch3) c fullShare f).symm)).trans (ex_pt c cc0_scratch3 f)

theorem join_oq (c : Dev nD) (f : cc0_scratch6.ty.Contents (Elt F)) : iprop(at_ (oqM 0) c fullShare f ∗ at_ (oqM 1) c fullShare f ∗ at_ (oqM 2) c fullShare f ∗ at_ (oqM 3) c fullShare f) ⊢ (iprop(∃ f, pt c cc0_scratch6 f) : sProp 𝕄) :=
  (Entails.of_eq ((at_chk4 (Memref.whole cc0_scratch6) c fullShare f).symm)).trans (ex_pt c cc0_scratch6 f)

theorem join_nb (c : Dev nD) (f : cc0_scratch7.ty.Contents (Elt F)) : iprop(at_ (nbM 0) c fullShare f ∗ at_ (nbM 1) c fullShare f ∗ at_ (nbM 2) c fullShare f ∗ at_ (nbM 3) c fullShare f) ⊢ (iprop(∃ f, pt c cc0_scratch7 f) : sProp 𝕄) :=
  (Entails.of_eq ((at_chk4 (Memref.whole cc0_scratch7) c fullShare f).symm)).trans (ex_pt c cc0_scratch7 f)

theorem join_rx (c : Dev nD) (f : cc0_scratch8.ty.Contents (Elt F)) : iprop(at_ ((Memref.whole cc0_scratch8).slice (pln 0) (fun _ => rfl)) c fullShare f ∗ at_ ((Memref.whole cc0_scratch8).slice (pln 1) (fun _ => rfl)) c fullShare f ∗ at_ ((Memref.whole cc0_scratch8).slice (pln 2) (fun _ => rfl)) c fullShare f) ⊢ (iprop(∃ f, pt c cc0_scratch8 f) : sProp 𝕄) :=
  (Entails.of_eq ((at_pln3 (Memref.whole cc0_scratch8) c fullShare f).symm)).trans (ex_pt c cc0_scratch8 f)

theorem join_gv (c : Dev nD) (f : cc0_scratch9.ty.Contents (Elt F)) : iprop(at_ gvM c fullShare f) ⊢ (iprop(∃ f, pt c cc0_scratch9 f) : sProp 𝕄) :=
  (Entails.of_eq ((gv_whole c f).symm)).trans (ex_pt c cc0_scratch9 f)

theorem join_out (c : Dev nD) (f : S512x512.Idx → Elt F .f32) : iprop(at_ (outM (w4 c 0) (fun _ => rfl)) c fullShare f ∗ at_ (outM (w4 c 1) (fun _ => rfl)) c fullShare f ∗ at_ (outM (w4 c 2) (fun _ => rfl)) c fullShare f ∗ at_ (outM (w4 c 3) (fun _ => rfl)) c fullShare f ∗ at_ (outM (w5 c) (fun _ => rfl)) c fullShare f ∗ at_ (outM (w6 c) (fun _ => rfl)) c fullShare f ∗ at_ (outM (w7 c) (fun _ => rfl)) c fullShare f) ⊢ (pt c main_v1 f : sProp 𝕄) :=
  Entails.of_eq (((pt_at c main_v1 f).trans (at_out7 c fullShare f)).symm)

theorem join_snd (c : Dev nD) : iprop(sndPay m 0 0 c ∗ sndPay m 0 1 c ∗ sndPay m 0 2 c ∗ sndPay m 0 3 c) ⊢ (iprop(∃ f, pt c cc0_scratch3 f) : sProp 𝕄) :=
  join_pb c (psbW m c)
/-- The shares of a chunk of the rounded rows, back from the three copies. -/
theorem nb_back (c : Dev nD) (k : Fin 4) : iprop(sndPay m 1 k c ∗ sndPay m 2 k c ∗ sndPay m 3 k c) ⊢ at_ (nbM k) c fullShare (nbW m c) :=
  (nb_thirds c k (nbW m c)).2

/-! ## What a device holds, by families -/

/-- The tokens of the copies it sends, on its own cells. -/
def tokS (c : Dev nD) : sProp 𝕄 := bigSep Finset.univ fun si : Fin 4 => bigSep Finset.univ fun k : Fin 4 => dutyTok ER (sndC si k c) 0 ()
theorem tokS_eq (c : Dev nD) : (tokS c : sProp 𝕄) = iprop((dutyTok ER (sndC 0 0 c) 0 () ∗ dutyTok ER (sndC 0 1 c) 0 () ∗ dutyTok ER (sndC 0 2 c) 0 () ∗ dutyTok ER (sndC 0 3 c) 0 ()) ∗ (dutyTok ER (sndC 1 0 c) 0 () ∗ dutyTok ER (sndC 1 1 c) 0 () ∗ dutyTok ER (sndC 1 2 c) 0 () ∗ dutyTok ER (sndC 1 3 c) 0 ()) ∗ (dutyTok ER (sndC 2 0 c) 0 () ∗ dutyTok ER (sndC 2 1 c) 0 () ∗ dutyTok ER (sndC 2 2 c) 0 () ∗ dutyTok ER (sndC 2 3 c) 0 ()) ∗ (dutyTok ER (sndC 3 0 c) 0 () ∗ dutyTok ER (sndC 3 1 c) 0 () ∗ dutyTok ER (sndC 3 2 c) 0 () ∗ dutyTok ER (sndC 3 3 c) 0 ())) := by
  unfold tokS; simp only [bigSep_f4]

/-- The tokens of the copies it sends, on the receivers' cells. -/
def tokR (c : Dev nD) : sProp 𝕄 := bigSep Finset.univ fun si : Fin 4 => bigSep Finset.univ fun k : Fin 4 => dutyTok ER (rcvC si k (nb si c)) 0 ()
theorem tokR_eq (c : Dev nD) : (tokR c : sProp 𝕄) = iprop((dutyTok ER (rcvC 0 0 (nb 0 c)) 0 () ∗ dutyTok ER (rcvC 0 1 (nb 0 c)) 0 () ∗ dutyTok ER (rcvC 0 2 (nb 0 c)) 0 () ∗ dutyTok ER (rcvC 0 3 (nb 0 c)) 0 ()) ∗ (dutyTok ER (rcvC 1 0 (nb 1 c)) 0 () ∗ dutyTok ER (rcvC 1 1 (nb 1 c)) 0 () ∗ dutyTok ER (rcvC 1 2 (nb 1 c)) 0 () ∗ dutyTok ER (rcvC 1 3 (nb 1 c)) 0 ()) ∗ (dutyTok ER (rcvC 2 0 (nb 2 c)) 0 () ∗ dutyTok ER (rcvC 2 1 (nb 2 c)) 0 () ∗ dutyTok ER (rcvC 2 2 (nb 2 c)) 0 () ∗ dutyTok ER (rcvC 2 3 (nb 2 c)) 0 ()) ∗ (dutyTok ER (rcvC 3 0 (nb 3 c)) 0 () ∗ dutyTok ER (rcvC 3 1 (nb 3 c)) 0 () ∗ dutyTok ER (rcvC 3 2 (nb 3 c)) 0 () ∗ dutyTok ER (rcvC 3 3 (nb 3 c)) 0 ())) := by
  unfold tokR; simp only [bigSep_f4]

/-- The tokens of its words, on the neighbours' cells. -/
def tokY (c : Dev nD) : sProp 𝕄 := bigSep Finset.univ fun j : Fin 3 => dutyTok ER (rdyC j (nb (Fin.succ j) c)) 0 ()
theorem tokY_eq (c : Dev nD) : (tokY c : sProp 𝕄) = iprop(dutyTok ER (rdyC 0 (nb (Fin.succ 0) c)) 0 () ∗ dutyTok ER (rdyC 1 (nb (Fin.succ 1) c)) 0 () ∗ dutyTok ER (rdyC 2 (nb (Fin.succ 2) c)) 0 ()) := by
  unfold tokY; rw [bigSep_f3]

/-- Its positions on its own cells: the sources', -/
def posS (c : Dev nD) : sProp 𝕄 := bigSep Finset.univ fun si : Fin 4 => bigSep Finset.univ fun k : Fin 4 => atPos ER (sndC si k c) 0 ∅ 0
theorem posS_eq (c : Dev nD) : (posS c : sProp 𝕄) = iprop((atPos ER (sndC 0 0 c) 0 ∅ 0 ∗ atPos ER (sndC 0 1 c) 0 ∅ 0 ∗ atPos ER (sndC 0 2 c) 0 ∅ 0 ∗ atPos ER (sndC 0 3 c) 0 ∅ 0) ∗ (atPos ER (sndC 1 0 c) 0 ∅ 0 ∗ atPos ER (sndC 1 1 c) 0 ∅ 0 ∗ atPos ER (sndC 1 2 c) 0 ∅ 0 ∗ atPos ER (sndC 1 3 c) 0 ∅ 0) ∗ (atPos ER (sndC 2 0 c) 0 ∅ 0 ∗ atPos ER (sndC 2 1 c) 0 ∅ 0 ∗ atPos ER (sndC 2 2 c) 0 ∅ 0 ∗ atPos ER (sndC 2 3 c) 0 ∅ 0) ∗ (atPos ER (sndC 3 0 c) 0 ∅ 0 ∗ atPos ER (sndC 3 1 c) 0 ∅ 0 ∗ atPos ER (sndC 3 2 c) 0 ∅ 0 ∗ atPos ER (sndC 3 3 c) 0 ∅ 0)) := by
  unfold posS; simp only [bigSep_f4]

/-- the landing chunks', -/
def posR (c : Dev nD) : sProp 𝕄 := bigSep Finset.univ fun si : Fin 4 => bigSep Finset.univ fun k : Fin 4 => atPos ER (rcvC si k c) 0 ∅ 0
theorem posR_eq (c : Dev nD) : (posR c : sProp 𝕄) = iprop((atPos ER (rcvC 0 0 c) 0 ∅ 0 ∗ atPos ER (rcvC 0 1 c) 0 ∅ 0 ∗ atPos ER (rcvC 0 2 c) 0 ∅ 0 ∗ atPos ER (rcvC 0 3 c) 0 ∅ 0) ∗ (atPos ER (rcvC 1 0 c) 0 ∅ 0 ∗ atPos ER (rcvC 1 1 c) 0 ∅ 0 ∗ atPos ER (rcvC 1 2 c) 0 ∅ 0 ∗ atPos ER (rcvC 1 3 c) 0 ∅ 0) ∗ (atPos ER (rcvC 2 0 c) 0 ∅ 0 ∗ atPos ER (rcvC 2 1 c) 0 ∅ 0 ∗ atPos ER (rcvC 2 2 c) 0 ∅ 0 ∗ atPos ER (rcvC 2 3 c) 0 ∅ 0) ∗ (atPos ER (rcvC 3 0 c) 0 ∅ 0 ∗ atPos ER (rcvC 3 1 c) 0 ∅ 0 ∗ atPos ER (rcvC 3 2 c) 0 ∅ 0 ∗ atPos ER (rcvC 3 3 c) 0 ∅ 0)) := by
  unfold posR; simp only [bigSep_f4]

/-- the words'. -/
def posY (c : Dev nD) : sProp 𝕄 := bigSep Finset.univ fun j : Fin 3 => atPos ER (rdyC j c) 0 ∅ 0
theorem posY_eq (c : Dev nD) : (posY c : sProp 𝕄) = iprop(atPos ER (rdyC 0 c) 0 ∅ 0 ∗ atPos ER (rdyC 1 c) 0 ∅ 0 ∗ atPos ER (rdyC 2 c) 0 ∅ 0) := by
  unfold posY; rw [bigSep_f3]

/-- The credit for what it waits for: the landing chunks, -/
def crR (c : Dev nD) : sProp 𝕄 := bigSep Finset.univ fun si : Fin 4 => bigSep Finset.univ fun k : Fin 4 => cred (tallyAt (rcvC si k c) () N)
theorem crR_eq (c : Dev nD) : (crR c : sProp 𝕄) = iprop((cred (tallyAt (rcvC 0 0 c) () N) ∗ cred (tallyAt (rcvC 0 1 c) () N) ∗ cred (tallyAt (rcvC 0 2 c) () N) ∗ cred (tallyAt (rcvC 0 3 c) () N)) ∗ (cred (tallyAt (rcvC 1 0 c) () N) ∗ cred (tallyAt (rcvC 1 1 c) () N) ∗ cred (tallyAt (rcvC 1 2 c) () N) ∗ cred (tallyAt (rcvC 1 3 c) () N)) ∗ (cred (tallyAt (rcvC 2 0 c) () N) ∗ cred (tallyAt (rcvC 2 1 c) () N) ∗ cred (tallyAt (rcvC 2 2 c) () N) ∗ cred (tallyAt (rcvC 2 3 c) () N)) ∗ (cred (tallyAt (rcvC 3 0 c) () N) ∗ cred (tallyAt (rcvC 3 1 c) () N) ∗ cred (tallyAt (rcvC 3 2 c) () N) ∗ cred (tallyAt (rcvC 3 3 c) () N))) := by
  unfold crR; simp only [bigSep_f4]

/-- and the words. -/
def crY (c : Dev nD) : sProp 𝕄 := bigSep Finset.univ fun j : Fin 3 => cred (tallyAt (rdyC j c) () 1)
theorem crY_eq (c : Dev nD) : (crY c : sProp 𝕄) = iprop(cred (tallyAt (rdyC 0 c) () 1) ∗ cred (tallyAt (rdyC 1 c) () 1) ∗ cred (tallyAt (rdyC 2 c) () 1)) := by
  unfold crY; rw [bigSep_f3]

/-- Its counters at zero. -/
def zS (c : Dev nD) : sProp 𝕄 := bigSep Finset.univ fun si : Fin 4 => bigSep Finset.univ fun k : Fin 4 => semVal (sndC si k c) 0
theorem zS_eq (c : Dev nD) : (zS c : sProp 𝕄) = iprop((semVal (sndC 0 0 c) 0 ∗ semVal (sndC 0 1 c) 0 ∗ semVal (sndC 0 2 c) 0 ∗ semVal (sndC 0 3 c) 0) ∗ (semVal (sndC 1 0 c) 0 ∗ semVal (sndC 1 1 c) 0 ∗ semVal (sndC 1 2 c) 0 ∗ semVal (sndC 1 3 c) 0) ∗ (semVal (sndC 2 0 c) 0 ∗ semVal (sndC 2 1 c) 0 ∗ semVal (sndC 2 2 c) 0 ∗ semVal (sndC 2 3 c) 0) ∗ (semVal (sndC 3 0 c) 0 ∗ semVal (sndC 3 1 c) 0 ∗ semVal (sndC 3 2 c) 0 ∗ semVal (sndC 3 3 c) 0)) := by
  unfold zS; simp only [bigSep_f4]

/-- Its counters at zero. -/
def zR (c : Dev nD) : sProp 𝕄 := bigSep Finset.univ fun si : Fin 4 => bigSep Finset.univ fun k : Fin 4 => semVal (rcvC si k c) 0
theorem zR_eq (c : Dev nD) : (zR c : sProp 𝕄) = iprop((semVal (rcvC 0 0 c) 0 ∗ semVal (rcvC 0 1 c) 0 ∗ semVal (rcvC 0 2 c) 0 ∗ semVal (rcvC 0 3 c) 0) ∗ (semVal (rcvC 1 0 c) 0 ∗ semVal (rcvC 1 1 c) 0 ∗ semVal (rcvC 1 2 c) 0 ∗ semVal (rcvC 1 3 c) 0) ∗ (semVal (rcvC 2 0 c) 0 ∗ semVal (rcvC 2 1 c) 0 ∗ semVal (rcvC 2 2 c) 0 ∗ semVal (rcvC 2 3 c) 0) ∗ (semVal (rcvC 3 0 c) 0 ∗ semVal (rcvC 3 1 c) 0 ∗ semVal (rcvC 3 2 c) 0 ∗ semVal (rcvC 3 3 c) 0)) := by
  unfold zR; simp only [bigSep_f4]

/-- Its counters at zero. -/
def zY (c : Dev nD) : sProp 𝕄 := bigSep Finset.univ fun j : Fin 3 => semVal (rdyC j c) 0
theorem zY_eq (c : Dev nD) : (zY c : sProp 𝕄) = iprop(semVal (rdyC 0 c) 0 ∗ semVal (rdyC 1 c) 0 ∗ semVal (rdyC 2 c) 0) := by
  unfold zY; rw [bigSep_f3]

/-- The counters of its local copies at zero. -/
def zL (c : Dev nD) : sProp 𝕄 := bigSep Finset.univ fun i : Fin 10 => semVal ((c : Thread nD τ), .dma (lsem i)) 0
theorem zL_eq (c : Dev nD) : (zL c : sProp 𝕄) = iprop(semVal ((c : Thread nD τ), .dma (lsem 0)) 0 ∗ semVal ((c : Thread nD τ), .dma (lsem 1)) 0 ∗ semVal ((c : Thread nD τ), .dma (lsem 2)) 0 ∗ semVal ((c : Thread nD τ), .dma (lsem 3)) 0 ∗ semVal ((c : Thread nD τ), .dma (lsem 4)) 0 ∗ semVal ((c : Thread nD τ), .dma (lsem 5)) 0 ∗ semVal ((c : Thread nD τ), .dma (lsem 6)) 0 ∗ semVal ((c : Thread nD τ), .dma (lsem 7)) 0 ∗ semVal ((c : Thread nD τ), .dma (lsem 8)) 0 ∗ semVal ((c : Thread nD τ), .dma (lsem 9)) 0) :=
  bigSep_univ_eq_bigSepL [0, 1, 2, 3, 4, 5, 6, 7, 8, 9] (by decide) (by decide) _

/-- Its scratch buffers, at contents not chosen. -/
def scr (c : Dev nD) : sProp 𝕄 := iprop((∃ f, pt c cc0_scratch0 f) ∗ (∃ f, pt c cc0_scratch1 f) ∗ (∃ f, pt c cc0_scratch2 f) ∗ (∃ f, pt c cc0_scratch3 f) ∗ (∃ f, pt c cc0_scratch4 f) ∗ (∃ f, pt c cc0_scratch5 f) ∗ (∃ f, pt c cc0_scratch6 f) ∗ (∃ f, pt c cc0_scratch7 f) ∗ (∃ f, pt c cc0_scratch8 f) ∗ (∃ f, pt c cc0_scratch9 f))

/-- What every device is given before the copies: the records, tokens, positions and credit, and its counters of local copies. -/
def dealt (c : Dev nD) : sProp 𝕄 :=
  iprop((∃ K, recs m K) ∗ (tokS c ∗ tokR c ∗ tokY c) ∗ (posS c ∗ posR c ∗ posY c) ∗ (crR c ∗ crY c) ∗ zL c)
/-- The unscoped buffers at their contents, the result at `f`. -/
def ubufs (c : Dev nD) (f : main_v1.ty.Contents (Elt F)) : sProp 𝕄 :=
  iprop(pt c main_arg0 (V m c main_arg0) ∗ pt c main_arg1 (V m c main_arg1) ∗ pt c main_arg2 (V m c main_arg2) ∗ pt c main_v1 f)
/-- Before the body. -/
def before (c : Dev nD) : sProp 𝕄 := iprop(dealt m c ∗ ubufs m c (V m c main_v1) ∗ scr c)
/-- After it. -/
def after (c : Dev nD) : sProp 𝕄 := iprop(ubufs m c (outW m c) ∗ (zS c ∗ zR c ∗ zY c ∗ zL c) ∗ scr c)

variable (K : Dev nD × Fin 35 → ℕ)

theorem mk_slot (c : Dev nD) (si k : Fin 4) {s : Shape} {e : EltTy} (M : Memref sig .tc .vmem s e) :
    iprop(recs m K ∗ (∃ f, at_ M c fullShare f)) ⊢ slot (F := F) M si k c := by
  unfold slot
  iintro ⟨#HR, H⟩
  isplitl [H]; · iexact H
  iapply (recs_reached m K c (iR si k) _ (cellS_iR si k)) $$ HR

/-- The landing chunks handed over with the words, each beside the record of its cell. -/
theorem words (c : Dev nD) : iprop(recs m K ∗ (∃ f, pt c cc0_scratch0 f) ∗ (∃ f, pt c cc0_scratch8 f))
    ⊢ iprop(rdyPay (F := F) 0 (nb (Fin.succ 0) c) ∗ rdyPay (F := F) 1 (nb (Fin.succ 1) c) ∗ rdyPay (F := F) 2 (nb (Fin.succ 2) c)) := by
  rw [show rdyPay (F := F) 0 (nb (Fin.succ 0) c) = iprop(slots0 c ∗ slotsR 0 c) from by
      show iprop(slots0 (pz (pz c)) ∗ slotsR 0 (pz (pz c))) = _; rw [pz_pz],
    show rdyPay (F := F) 1 (nb (Fin.succ 1) c) = slotsR 1 c from by show slotsR 1 (px (px c)) = _; rw [px_px],
    show rdyPay (F := F) 2 (nb (Fin.succ 2) c) = slotsR 2 c from by show slotsR 2 (py (py c)) = _; rw [py_py]]
  unfold slots0 slotsR
  iintro ⟨#HR, Hc, Hx⟩
  ihave Hc := (cut_cm c) $$ Hc
  icases Hc with ⟨C0, C1, C2, C3⟩
  ihave Hx := (cut_rx c) $$ Hx
  icases Hx with ⟨⟨X00, X01, X02, X03⟩, ⟨X10, X11, X12, X13⟩, ⟨X20, X21, X22, X23⟩⟩
  ihave C0 := (cur2 (mk_slot m K c 0 0 (cmM 0))) $$ HR C0
  ihave C1 := (cur2 (mk_slot m K c 0 1 (cmM 1))) $$ HR C1
  ihave C2 := (cur2 (mk_slot m K c 0 2 (cmM 2))) $$ HR C2
  ihave C3 := (cur2 (mk_slot m K c 0 3 (cmM 3))) $$ HR C3
  ihave X00 := (cur2 (mk_slot m K c (Fin.succ 0) 0 (rxM 0 0))) $$ HR X00
  ihave X01 := (cur2 (mk_slot m K c (Fin.succ 0) 1 (rxM 0 1))) $$ HR X01
  ihave X02 := (cur2 (mk_slot m K c (Fin.succ 0) 2 (rxM 0 2))) $$ HR X02
  ihave X03 := (cur2 (mk_slot m K c (Fin.succ 0) 3 (rxM 0 3))) $$ HR X03
  ihave X10 := (cur2 (mk_slot m K c (Fin.succ 1) 0 (rxM 1 0))) $$ HR X10
  ihave X11 := (cur2 (mk_slot m K c (Fin.succ 1) 1 (rxM 1 1))) $$ HR X11
  ihave X12 := (cur2 (mk_slot m K c (Fin.succ 1) 2 (rxM 1 2))) $$ HR X12
  ihave X13 := (cur2 (mk_slot m K c (Fin.succ 1) 3 (rxM 1 3))) $$ HR X13
  ihave X20 := (cur2 (mk_slot m K c (Fin.succ 2) 0 (rxM 2 0))) $$ HR X20
  ihave X21 := (cur2 (mk_slot m K c (Fin.succ 2) 1 (rxM 2 1))) $$ HR X21
  ihave X22 := (cur2 (mk_slot m K c (Fin.succ 2) 2 (rxM 2 2))) $$ HR X22
  ihave X23 := (cur2 (mk_slot m K c (Fin.succ 2) 3 (rxM 2 3))) $$ HR X23
  isplitl [C0 C1 C2 C3 X00 X01 X02 X03]
  · isplitl [C0 C1 C2 C3]
    · isplitl [C0]; · iexact C0
      isplitl [C1]; · iexact C1
      isplitl [C2]; · iexact C2
      iexact C3
    isplitl [X00]; · iexact X00
    isplitl [X01]; · iexact X01
    isplitl [X02]; · iexact X02
    iexact X03
  isplitl [X10 X11 X12 X13]
  · isplitl [X10]; · iexact X10
    isplitl [X11]; · iexact X11
    isplitl [X12]; · iexact X12
    iexact X13
  isplitl [X20]; · iexact X20
  isplitl [X21]; · iexact X21
  isplitl [X22]; · iexact X22
  iexact X23

set_option maxRecDepth 65536 in
set_option maxHeartbeats 4000000 in
/-- The body, from what a device is given to what it gives back. -/
theorem body_all (c : Dev nD) : iprop(before m c ∗ ow c 0) ⊢ Wp c (on cc0_body) (fun _ => iprop(after m c ∗ ow c 19)) := by
  unfold before dealt ubufs scr
  iintro ⟨⟨⟨⟨%K, #HR⟩, ⟨T1, T2, T3⟩, ⟨P1, P2, P3⟩, ⟨C1, C2⟩, Z1⟩, ⟨A0, A1, A2, A3⟩, ⟨S0, S1, S2, S3, S4, S5, S6, S7, S8, S9⟩⟩, HO⟩
  ihave T1 := (Entails.of_eq (tokS_eq c)) $$ T1
  icases T1 with ⟨⟨HTS00, HTS01, HTS02, HTS03⟩, ⟨HTS10, HTS11, HTS12, HTS13⟩, ⟨HTS20, HTS21, HTS22, HTS23⟩, ⟨HTS30, HTS31, HTS32, HTS33⟩⟩
  ihave T2 := (Entails.of_eq (tokR_eq c)) $$ T2
  icases T2 with ⟨⟨HTR00, HTR01, HTR02, HTR03⟩, ⟨HTR10, HTR11, HTR12, HTR13⟩, ⟨HTR20, HTR21, HTR22, HTR23⟩, ⟨HTR30, HTR31, HTR32, HTR33⟩⟩
  ihave T3 := (Entails.of_eq (tokY_eq c)) $$ T3
  icases T3 with ⟨HTY0, HTY1, HTY2⟩
  ihave P1 := (Entails.of_eq (posS_eq c)) $$ P1
  icases P1 with ⟨⟨HAS00, HAS01, HAS02, HAS03⟩, ⟨HAS10, HAS11, HAS12, HAS13⟩, ⟨HAS20, HAS21, HAS22, HAS23⟩, ⟨HAS30, HAS31, HAS32, HAS33⟩⟩
  ihave P2 := (Entails.of_eq (posR_eq c)) $$ P2
  icases P2 with ⟨⟨HAV00, HAV01, HAV02, HAV03⟩, ⟨HAV10, HAV11, HAV12, HAV13⟩, ⟨HAV20, HAV21, HAV22, HAV23⟩, ⟨HAV30, HAV31, HAV32, HAV33⟩⟩
  ihave P3 := (Entails.of_eq (posY_eq c)) $$ P3
  icases P3 with ⟨HAY0, HAY1, HAY2⟩
  ihave C1 := (Entails.of_eq (crR_eq c)) $$ C1
  icases C1 with ⟨⟨HCV00, HCV01, HCV02, HCV03⟩, ⟨HCV10, HCV11, HCV12, HCV13⟩, ⟨HCV20, HCV21, HCV22, HCV23⟩, ⟨HCV30, HCV31, HCV32, HCV33⟩⟩
  ihave C2 := (Entails.of_eq (crY_eq c)) $$ C2
  icases C2 with ⟨HCY0, HCY1, HCY2⟩
  ihave Z1 := (Entails.of_eq (zL_eq c)) $$ Z1
  icases Z1 with ⟨HZL0, HZL1, HZL2, HZL3, HZL4, HZL5, HZL6, HZL7, HZL8, HZL9⟩
  ihave A0 := (lend0 c _) $$ A0
  icases A0 with ⟨HP0, HP1, HQ, B0⟩
  ihave A1 := (lend1 c (V m c main_arg1)) $$ A1
  icases A1 with ⟨HR1, B1⟩
  ihave HG := (Entails.of_eq (pt_at c main_arg2 _)) $$ A2
  ihave HY := (cur3 (words m K c)) $$ HR S0 S8
  icases HY with ⟨HRP0, HRP1, HRP2⟩
  ihave Hac := (cut_ac c) $$ S1
  ihave S2 := (cut_ps c) $$ S2
  icases S2 with ⟨Hph0, Hph1⟩
  ihave S3 := (cut_pb c) $$ S3
  icases S3 with ⟨Hpb0, Hpb1⟩
  ihave Hpm := (cut_pm c) $$ S4
  ihave Hrq := (cut_rq c) $$ S5
  ihave S6 := (cut_oq c) $$ S6
  icases S6 with ⟨Hoq0, Hoq1, Hoq2, Hoq3⟩
  ihave S7 := (cut_nb c) $$ S7
  icases S7 with ⟨Hnb0, Hnb1, Hnb2, Hnb3⟩
  ihave Hgv := (cut_gv c) $$ S9
  ihave A3 := (show (pt c main_v1 (V m c main_v1) : sProp 𝕄) ⊢ iprop(∃ f, pt c main_v1 f) from by iintro H; iexists _; iexact H) $$ A3
  ihave A3 := (cut_out c) $$ A3
  icases A3 with ⟨Ho40, Ho41, Ho42, Ho43, Ho5, Ho6, Ho7⟩
  iapply (body_run m K c qs3 _) $$ HR HO HRP0 HTY0 HCY0 HAY0 HRP1 HTY1 HCY1 HAY1 HRP2 HTY2 HCY2 HAY2 HTS00 HTR00 HCV00 HAV00 HAS00 HTS01 HTR01 HCV01 HAV01 HAS01 HTS02 HTR02 HCV02 HAV02 HAS02 HTS03 HTR03 HCV03 HAV03 HAS03 HTS10 HTR10 HCV10 HAV10 HAS10 HTS11 HTR11 HCV11 HAV11 HAS11 HTS12 HTR12 HCV12 HAV12 HAS12 HTS13 HTR13 HCV13 HAV13 HAS13 HTS20 HTR20 HCV20 HAV20 HAS20 HTS21 HTR21 HCV21 HAV21 HAS21 HTS22 HTR22 HCV22 HAV22 HAS22 HTS23 HTR23 HCV23 HAV23 HAS23 HTS30 HTR30 HCV30 HAV30 HAS30 HTS31 HTR31 HCV31 HAV31 HAS31 HTS32 HTR32 HCV32 HAV32 HAS32 HTS33 HTR33 HCV33 HAV33 HAS33 HP0 HP1 HQ HR1 HG Hph0 Hph1 Hpb0 Hpb1 Hpm Hrq Hac Hgv Ho5 Ho6 Ho7 Hoq0 Hnb0 Ho40 Hoq1 Hnb1 Ho41 Hoq2 Hnb2 Ho42 Hoq3 Hnb3 Ho43 HZL0 HZL1 HZL2 HZL3 HZL4 HZL5 HZL6 HZL7 HZL8 HZL9
  iintro HZY0 HP0 HZL4 HP1 HZL5 HQ HR1 HG HZL3 HZV00 HRV00 HZY1 HZY2 HZV01 HRV01 HZV02 HRV02 HZV03 HRV03 Hac Hgv HZV10 HZV11 HZV12 HZV13 Hrx0 HZV20 HZV21 HZV22 HZV23 Hrx1 HZV30 HZV31 HZV32 HZV33 Hrx2 Ho5 Hps HZL0 Ho6 Hpm HZL1 Ho7 Hrq HZL2 Ho40 Hoq0 HZL6 Ho41 Hoq1 HZL7 Ho42 Hoq2 HZL8 Ho43 Hoq3 HZL9 HZS00 HSV00 HZS01 HSV01 HZS02 HSV02 HZS03 HSV03 HZS10 HSV10 HZS20 HSV20 HZS30 HSV30 HZS11 HSV11 HZS21 HSV21 HZS31 HSV31 HZS12 HSV12 HO HZS22 HSV22 HZS32 HSV32 HZS13 HSV13 HZS23 HSV23 HZS33 HSV33
  ihave A0 := B0 $$ HP0 HP1 HQ
  ihave A1 := B1 $$ HR1
  ihave A2 := (Entails.of_eq (pt_at c main_arg2 (V m c main_arg2)).symm) $$ HG
  ihave A3 := (join_out c (outW m c)) $$ [Ho40 Ho41 Ho42 Ho43 Ho5 Ho6 Ho7]
  · isplitl [Ho40]; · iexact Ho40
    isplitl [Ho41]; · iexact Ho41
    isplitl [Ho42]; · iexact Ho42
    isplitl [Ho43]; · iexact Ho43
    isplitl [Ho5]; · iexact Ho5
    isplitl [Ho6]; · iexact Ho6
    iexact Ho7
  ihave S0 := (join_cm c (cmW m c)) $$ [HRV00 HRV01 HRV02 HRV03]
  · isplitl [HRV00]; · iexact HRV00
    isplitl [HRV01]; · iexact HRV01
    isplitl [HRV02]; · iexact HRV02
    iexact HRV03
  ihave S1 := (ex_pt c cc0_scratch1 _) $$ Hac
  ihave S2 := (ex_pt c cc0_scratch2 _) $$ Hps
  ihave S3 := (join_snd m c) $$ [HSV00 HSV01 HSV02 HSV03]
  · isplitl [HSV00]; · iexact HSV00
    isplitl [HSV01]; · iexact HSV01
    isplitl [HSV02]; · iexact HSV02
    iexact HSV03
  ihave S4 := (ex_pt c cc0_scratch4 _) $$ Hpm
  ihave S5 := (ex_pt c cc0_scratch5 _) $$ Hrq
  ihave S6 := (join_oq c (nfW m c)) $$ [Hoq0 Hoq1 Hoq2 Hoq3]
  · isplitl [Hoq0]; · iexact Hoq0
    isplitl [Hoq1]; · iexact Hoq1
    isplitl [Hoq2]; · iexact Hoq2
    iexact Hoq3
  ihave N0 := (nb_back m c 0) $$ [HSV10 HSV20 HSV30]
  · isplitl [HSV10]; · iexact HSV10
    isplitl [HSV20]; · iexact HSV20
    iexact HSV30
  ihave N1 := (nb_back m c 1) $$ [HSV11 HSV21 HSV31]
  · isplitl [HSV11]; · iexact HSV11
    isplitl [HSV21]; · iexact HSV21
    iexact HSV31
  ihave N2 := (nb_back m c 2) $$ [HSV12 HSV22 HSV32]
  · isplitl [HSV12]; · iexact HSV12
    isplitl [HSV22]; · iexact HSV22
    iexact HSV32
  ihave N3 := (nb_back m c 3) $$ [HSV13 HSV23 HSV33]
  · isplitl [HSV13]; · iexact HSV13
    isplitl [HSV23]; · iexact HSV23
    iexact HSV33
  ihave S7 := (join_nb c (nbW m c)) $$ [N0 N1 N2 N3]
  · isplitl [N0]; · iexact N0
    isplitl [N1]; · iexact N1
    isplitl [N2]; · iexact N2
    iexact N3
  ihave S8 := (join_rx c (rxW m c)) $$ [Hrx0 Hrx1 Hrx2]
  · isplitl [Hrx0]; · iexact Hrx0
    isplitl [Hrx1]; · iexact Hrx1
    iexact Hrx2
  ihave S9 := (join_gv c (gvW m c)) $$ Hgv
  unfold after ubufs scr
  rw [zS_eq, zR_eq, zY_eq, zL_eq]
  isplitr [HO]
  · isplitl [A0 A1 A2 A3]
    · isplitl [A0]; · iexact A0
      isplitl [A1]; · iexact A1
      isplitl [A2]; · iexact A2
      iexact A3
    isplitl [HZS00 HZS01 HZS02 HZS03 HZS10 HZS11 HZS12 HZS13 HZS20 HZS21 HZS22 HZS23 HZS30 HZS31 HZS32 HZS33 HZV00 HZV01 HZV02 HZV03 HZV10 HZV11 HZV12 HZV13 HZV20 HZV21 HZV22 HZV23 HZV30 HZV31 HZV32 HZV33 HZY0 HZY1 HZY2 HZL0 HZL1 HZL2 HZL3 HZL4 HZL5 HZL6 HZL7 HZL8 HZL9]
    · isplitl [HZS00 HZS01 HZS02 HZS03 HZS10 HZS11 HZS12 HZS13 HZS20 HZS21 HZS22 HZS23 HZS30 HZS31 HZS32 HZS33]
      · isplitl [HZS00 HZS01 HZS02 HZS03]
        · isplitl [HZS00]; · iexact HZS00
          isplitl [HZS01]; · iexact HZS01
          isplitl [HZS02]; · iexact HZS02
          iexact HZS03
        isplitl [HZS10 HZS11 HZS12 HZS13]
        · isplitl [HZS10]; · iexact HZS10
          isplitl [HZS11]; · iexact HZS11
          isplitl [HZS12]; · iexact HZS12
          iexact HZS13
        isplitl [HZS20 HZS21 HZS22 HZS23]
        · isplitl [HZS20]; · iexact HZS20
          isplitl [HZS21]; · iexact HZS21
          isplitl [HZS22]; · iexact HZS22
          iexact HZS23
        isplitl [HZS30]; · iexact HZS30
        isplitl [HZS31]; · iexact HZS31
        isplitl [HZS32]; · iexact HZS32
        iexact HZS33
      isplitl [HZV00 HZV01 HZV02 HZV03 HZV10 HZV11 HZV12 HZV13 HZV20 HZV21 HZV22 HZV23 HZV30 HZV31 HZV32 HZV33]
      · isplitl [HZV00 HZV01 HZV02 HZV03]
        · isplitl [HZV00]; · iexact HZV00
          isplitl [HZV01]; · iexact HZV01
          isplitl [HZV02]; · iexact HZV02
          iexact HZV03
        isplitl [HZV10 HZV11 HZV12 HZV13]
        · isplitl [HZV10]; · iexact HZV10
          isplitl [HZV11]; · iexact HZV11
          isplitl [HZV12]; · iexact HZV12
          iexact HZV13
        isplitl [HZV20 HZV21 HZV22 HZV23]
        · isplitl [HZV20]; · iexact HZV20
          isplitl [HZV21]; · iexact HZV21
          isplitl [HZV22]; · iexact HZV22
          iexact HZV23
        isplitl [HZV30]; · iexact HZV30
        isplitl [HZV31]; · iexact HZV31
        isplitl [HZV32]; · iexact HZV32
        iexact HZV33
      isplitl [HZY0 HZY1 HZY2]
      · isplitl [HZY0]; · iexact HZY0
        isplitl [HZY1]; · iexact HZY1
        iexact HZY2
      isplitl [HZL0]; · iexact HZL0
      isplitl [HZL1]; · iexact HZL1
      isplitl [HZL2]; · iexact HZL2
      isplitl [HZL3]; · iexact HZL3
      isplitl [HZL4]; · iexact HZL4
      isplitl [HZL5]; · iexact HZL5
      isplitl [HZL6]; · iexact HZL6
      isplitl [HZL7]; · iexact HZL7
      isplitl [HZL8]; · iexact HZL8
      iexact HZL9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact HO

end Cert.KernelIdeal.NormRun

end
-- ==== Proof.Launch.lean ====
/-
The launch: the records, tokens, positions and credit dealt to the devices before they start.
-/
module

public import proofs.«01_k».proof.Proof.Ends
public import Idealize.ShloMosaic.Lib.Pipeline.CollectiveSegs

@[expose] public section

noncomputable section

namespace Cert.KernelIdeal.NormRun

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ)

/-! ## The cells, family by family -/

/-- The cells' numbers as the three families. -/
def famMap : (Fin 4 × Fin 4) ⊕ (Fin 4 × Fin 4) ⊕ Fin 3 → Fin 35
  | .inl a => iS a.1 a.2
  | .inr (.inl a) => iR a.1 a.2
  | .inr (.inr j) => iY j
theorem famMap_bij : Function.Bijective famMap := by decide +kernel
def famE : (Fin 4 × Fin 4) ⊕ (Fin 4 × Fin 4) ⊕ Fin 3 ≃ Fin 35 := Equiv.ofBijective famMap famMap_bij

omit [FloatOps F] in
theorem fam (Φ : Fin 35 → sProp (MT nD τ sig Unit (Elt F) ℕ UU ℕ)) : bigSep Finset.univ Φ
    = iprop((bigSep Finset.univ fun si : Fin 4 => bigSep Finset.univ fun k : Fin 4 => Φ (iS si k))
      ∗ (bigSep Finset.univ fun si : Fin 4 => bigSep Finset.univ fun k : Fin 4 => Φ (iR si k))
      ∗ bigSep Finset.univ fun j : Fin 3 => Φ (iY j)) := by
  rw [bigSep_univ_equiv famE Φ, bigSep_univ_sum, bigSep_univ_sum, bigSep_univ_prod, bigSep_univ_prod]
  rfl

omit [FloatOps F] in
theorem famG (Φ : GSem nD τ sig → sProp (MT nD τ sig Unit (Elt F) ℕ UU ℕ)) (c : Dev nD) : (bigSep Finset.univ fun i : Fin 35 => Φ (kcell (c, i)))
    = iprop((bigSep Finset.univ fun si : Fin 4 => bigSep Finset.univ fun k : Fin 4 => Φ (sndC si k c))
      ∗ (bigSep Finset.univ fun si : Fin 4 => bigSep Finset.univ fun k : Fin 4 => Φ (rcvC si k c))
      ∗ bigSep Finset.univ fun j : Fin 3 => Φ (rdyC j c)) := by
  rw [fam]
  have h1 : ∀ si k, kcell (c, iS si k) = sndC si k c := fun si k => by unfold kcell sndC; rw [cellS_iS]
  have h2 : ∀ si k, kcell (c, iR si k) = rcvC si k c := fun si k => by unfold kcell rcvC; rw [cellS_iR]
  have h3 : ∀ j, kcell (c, iY j) = rdyC j c := fun j => by unfold kcell rdyC; rw [cellS_iY]
  simp only [h1, h2, h3]

theorem cellS_injective : Function.Injective cellS := by decide +kernel
theorem kcell_injective : Function.Injective kcell := by
  rintro ⟨c, i⟩ ⟨c', i'⟩ h
  have h1 : c = c' := congrArg (fun g : GSem nD τ sig => g.1.1) h
  have h2 : i = i' := cellS_injective (congrArg (fun g : GSem nD τ sig => g.2) h)
  rw [h1, h2]

/-- The semaphores allocated for the kernel alone: those of the local copies and all the cells' but the barrier. -/
def osem : Fin 10 ⊕ Fin 34 → SemLoc sig
  | .inl i => .dma (lsem i)
  | .inr i => cellS (Fin.castAdd 1 i)
theorem ownSemFacts : Pipeline.OwnSemFacts cfg0.spec osem := by decide +kernel

omit [FloatOps F] in
theorem sems0_eq (c : Dev nD) :
    iprop(Pipeline.ownSems0 (Ix := Unit) (Name := ℕ) (U := UU) (Lvl := ℕ) (Val := Elt F) (τ := τ) osem c ∗ unscopedSems0 c)
      = (iprop(zL c ∗ bigSep Finset.univ fun i : Fin 35 => semVal (kcell (c, i)) 0) : sProp 𝕄) := by
  have hu : (unscopedSems0 c : sProp 𝕄) = semVal (kcell (c, Fin.last 34)) 0 := by
    unfold unscopedSems0; rw [bigSep_eq_bigSepL_of_eq [SemLoc.reg (2 : Fin 3)] (by decide) (by decide)]; rfl
  have hs : (bigSep Finset.univ fun i : Fin 35 => (semVal (kcell (c, i)) 0 : sProp 𝕄))
      = iprop((bigSep Finset.univ fun i : Fin 34 => semVal (kcell (c, Fin.castAdd 1 i)) 0) ∗ semVal (kcell (c, Fin.last 34)) 0) := by
    rw [bigSep_univ_equiv (finSumFinEquiv (m := 34) (n := 1)), bigSep_univ_sum,
      bigSep_univ_of_subsingleton (0 : Fin 1)]
    rfl
  rw [hu, hs]
  unfold Pipeline.ownSems0
  rw [bigSep_univ_sum]
  exact equiv_iff.mp ⟨BI.sep_assoc, BI.sep_assoc'⟩

/-! ## The ghost state the launch starts from -/

def allCells : Finset (GSem nD τ sig) := Finset.univ.map ⟨kcell, kcell_injective⟩
def tokOf (ck : Dev nD × Fin 35) : GSem nD τ sig × ℕ × Unit := (kcell ck, 0, ())
theorem tokOf_injective : Function.Injective tokOf := fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), (initOf allCells allToks, (1 : Counters)))

/-- The tokens of device `c`'s own cells. -/
def ownToks (c : Dev nD) : sProp 𝕄 := bigSep Finset.univ fun i : Fin 35 => dutyTok ER (kcell (c, i)) 0 ()
def ownPos (c : Dev nD) : sProp 𝕄 := bigSep Finset.univ fun i : Fin 35 => atPos ER (kcell (c, i)) 0 ∅ 0
def ownReached (c : Dev nD) : sProp 𝕄 := bigSep Finset.univ fun i : Fin 35 => reached ER (kcell (c, i)) 0

/-- What the launch element gives device `c`. -/
def G (c : Dev nD) : sProp 𝕄 :=
  iprop((bigSep Finset.univ fun i : Fin 35 => roundState ER (Rd m) (kcell (c, i)) 0) ∗ ownPos c ∗ ownReached c ∗ ownToks c)

theorem fund : BI.own (ER (initOf allCells allToks)) ⊢ (|==> bigSep Finset.univ (G m) : sProp 𝕄) := by
  have hX (Φ : GSem nD τ sig → sProp (MT nD τ sig Unit (Elt F) ℕ UU ℕ)) :
      bigSep allCells Φ = bigSep Finset.univ fun c : Dev nD => bigSep Finset.univ fun i : Fin 35 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ownPos ownReached; simp only [bigSep_sep']
  isplitl [Hst']; · iexact Hst'
  isplitl [Hat']; · iexact Hat'
  isplitl [Hr']; · iexact Hr'
  iexact Htok'

/-! ## The cells opened, and the tokens dealt -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 35 => iprop(∃ κ : ℕ, cellInv ER (Rd m) κ (kcell (c, i))))
          ∗ ownPos c ∗ ownReached c ∗ ownToks c ∗ zL c) := by
  unfold G
  iintro ⟨Hos, Hus, Hst, Hat, Hr, Htok⟩
  ihave Hv := (Entails.of_eq (sems0_eq (F := F) c)) $$ [Hos Hus]
  · isplitl [Hos] <;> iassumption
  icases Hv with ⟨Hz, Hv⟩
  imod (show iprop((bigSep Finset.univ fun i : Fin 35 => semVal (kcell (c, i)) 0) ∗ bigSep Finset.univ fun i : Fin 35 => roundState ER (Rd m) (kcell (c, i)) 0)
      ⊢ (|={Set.univ}=> bigSep Finset.univ fun i : Fin 35 => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hz

omit [FloatOps F] in
/-- A family of per-device propositions, each moved to the neighbour. -/
theorem deal (si : Fin 4) (Φ : Dev nD → sProp (MT nD τ sig Unit (Elt F) ℕ UU ℕ)) :
    bigSep Finset.univ Φ = bigSep Finset.univ fun c => Φ (nb si c) := bigSep_univ_equiv (nbE si) Φ

theorem deal_toks : (bigSep Finset.univ fun c : Dev nD => (ownToks c : sProp 𝕄)) ⊢ bigSep Finset.univ fun c : Dev nD => iprop(tokS c ∗ tokR c ∗ tokY c) := by
  have h0 : (fun c : Dev nD => (ownToks c : sProp 𝕄)) = fun c => _ := funext fun c => famG (fun g => dutyTok ER g 0 ()) c
  have hR : (bigSep Finset.univ fun c : Dev nD => bigSep Finset.univ fun si : Fin 4 => bigSep Finset.univ fun k : Fin 4 => (dutyTok ER (rcvC si k c) 0 () : sProp 𝕄))
      = bigSep Finset.univ fun c : Dev nD => tokR c := by
    unfold tokR
    rw [bigSep_univ_comm, bigSep_univ_comm (fun (c : Dev nD) (si : Fin 4) => bigSep Finset.univ fun k : Fin 4 => (dutyTok ER (rcvC si k (nb si c)) 0 () : sProp 𝕄))]
    exact bigSep_congr fun si _ => deal si fun c => bigSep Finset.univ fun k : Fin 4 => dutyTok ER (rcvC si k c) 0 ()
  have hY : (bigSep Finset.univ fun c : Dev nD => bigSep Finset.univ fun j : Fin 3 => (dutyTok ER (rdyC j c) 0 () : sProp 𝕄))
      = bigSep Finset.univ fun c : Dev nD => tokY c := by
    unfold tokY
    rw [bigSep_univ_comm, bigSep_univ_comm (fun (c : Dev nD) (j : Fin 3) => (dutyTok ER (rdyC j (nb (Fin.succ j) c)) 0 () : sProp 𝕄))]
    exact bigSep_congr fun j _ => deal (Fin.succ j) fun c => dutyTok ER (rdyC j c) 0 ()
  rw [h0, bigSep_sep', bigSep_sep', hR, hY, bigSep_sep', bigSep_sep']
  exact Entails.rfl

theorem ownPos_eq (c : Dev nD) : (ownPos c : sProp 𝕄) = iprop(posS c ∗ posR c ∗ posY c) := famG (fun g => atPos ER g 0 ∅ 0) c

/-- The records but the levels. -/
def recs' (K : Dev nD × Fin 35 → ℕ) : sProp 𝕄 :=
  iprop((bigSep Finset.univ fun ck : Dev nD × Fin 35 => cellInv ER (Rd m) (K ck) (kcell ck))
    ∗ bigSep Finset.univ fun ck : Dev nD × Fin 35 => reached ER (kcell ck) 0)
instance recs'_persistent (K : Dev nD × Fin 35 → ℕ) : Persistent (recs' m K) := by unfold recs'; infer_instance

/-- What stays with device `c` alone. -/
def alone (c : Dev nD) : sProp 𝕄 := iprop((tokS c ∗ tokR c ∗ tokY c) ∗ (posS c ∗ posR c ∗ posY c) ∗ zL c)
/-- What device `c` has after the cells are opened. -/
def G' (c : Dev nD) : sProp 𝕄 := iprop((∃ K, recs' m K) ∗ alone c)

omit [FloatOps F] in
theorem spread {I : Type} [DecidableEq I] {S : Finset I} {R : sProp 𝕄} [Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Fin 35 => iprop(∃ κ : ℕ, cellInv ER (Rd m) κ (kcell (c, i))))
          ∗ ownPos c ∗ ownReached c ∗ ownToks c ∗ zL c) : sProp 𝕄)
      ⊢ bigSep Finset.univ (G' m) := by
  rw [bigSep_sep', bigSep_sep', bigSep_sep', bigSep_sep', ← bigSep_univ_prod (fun ck : Dev nD × Fin 35 => iprop(∃ κ : ℕ, cellInv ER (Rd m) κ (kcell ck)))]
  have hr : (bigSep Finset.univ fun c : Dev nD => (ownReached c : sProp 𝕄)) = bigSep Finset.univ fun ck : Dev nD × Fin 35 => reached ER (kcell ck) 0 := by
    rw [bigSep_univ_prod]; rfl
  rw [hr, show (ownPos : Dev nD → sProp (MT nD τ sig Unit (Elt F) ℕ UU ℕ)) = fun c => iprop(posS c ∗ posR c ∗ posY c) from funext ownPos_eq]
  iintro ⟨HI, Hat, #HR, Htok, Hz⟩
  ihave HK := (BI.bigSep_exists_pi Finset.univ (fun (ck : Dev nD × Fin 35) (κ : ℕ) => (cellInv ER (Rd m) κ (kcell ck) : sProp 𝕄))) $$ HI
  icases HK with ⟨%K, #HI⟩
  ihave Htk := (deal_toks (F := F)) $$ Htok
  iapply (spread (R := recs' m K) (Φ := fun c => alone c) fun c _ => by
    unfold G'
    iintro ⟨H1, H2⟩
    isplitl [H1]; · iexists K; iexact H1
    iexact H2)
  isplitr
  · unfold recs'; isplitl; · iexact HI
    iexact HR
  · unfold alone
    rw [bigSep_sep' Finset.univ (fun c : Dev nD => iprop(tokS c ∗ tokR c ∗ tokY c)), bigSep_sep' Finset.univ (fun c : Dev nD => iprop(posS c ∗ posR c ∗ posY c))]
    isplitl [Htk]; · iexact Htk
    isplitl [Hat]; · iexact Hat
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What each device owes at the start. -/
def O₀ (c : Dev nD) : CellTallies nD τ sig Unit := owe c 0

theorem owedL_count (l : List (GSem nD τ sig)) (g : GSem nD τ sig) : owedL l g () = l.count g * amtOf g.2 := by
  induction l with
  | nil => rw [List.count_nil, Nat.zero_mul]; rfl
  | cons a l ih =>
    rw [owedL_cons, Pi.add_apply, Finsupp.add_apply, ih, tallyAt_apply, List.count_cons, Nat.add_mul]
    by_cases h : a = g
    · subst h; simp
    · rw [if_neg (fun hg => h hg.1.symm)]; simp [h]

theorem debts_rcv : ∀ (si k : Fin 4) (c : Dev nD), (∑ d : Dev nD, (debts d).count (rcvC si k c)) = 1 := by decide +kernel
theorem debts_rdy : ∀ (j : Fin 3) (c : Dev nD), (∑ d : Dev nD, (debts d).count (rdyC j c)) = 1 := by decide +kernel

theorem launch_at (g : GSem nD τ sig) (h : (∑ d : Dev nD, (debts d).count g) = 1) :
    tallyOn g (launchCredit (Pipeline.owing O₀) 0 g) = (tallyAt g () (amtOf g.2) : CellTallies nD τ sig Unit) := by
  unfold tallyAt; refine congrArg _ (Finsupp.ext fun u => ?_); cases u
  rw [Pipeline.launchCredit_owing, Finsupp.single_eq_same,
    Finset.sum_congr rfl fun d _ => (show O₀ d g () = (debts d).count g * amtOf g.2 from owedL_count (debts d) g), ← Finset.sum_mul, h, Nat.one_mul]

theorem creds (c : Dev nD) : (Pipeline.launchCred O₀ c : sProp 𝕄) ⊢ iprop(crR c ∗ crY c) := by
  have hs : (Pipeline.launchCred O₀ c : sProp 𝕄) ⊢ bigSep Finset.univ fun i : Fin 35 =>
      cred (tallyOn (kcell (c, i)) (launchCredit (Pipeline.owing O₀) 0 (kcell (c, i)))) := by
    unfold Pipeline.launchCred
    refine (bigSep_subset (Finset.subset_univ (Finset.univ.map ⟨cellS, cellS_injective⟩))).trans ?_
    exact Entails.of_eq (bigSep_map _)
  refine hs.trans ?_
  rw [famG (fun g => cred (tallyOn g (launchCredit (Pipeline.owing O₀) 0 g))) c]
  have h1 : (bigSep Finset.univ fun si : Fin 4 => bigSep Finset.univ fun k : Fin 4 =>
      (cred (tallyOn (rcvC si k c) (launchCredit (Pipeline.owing O₀) 0 (rcvC si k c))) : sProp 𝕄)) = crR c :=
    bigSep_congr fun si _ => bigSep_congr fun k _ => congrArg cred (launch_at (rcvC si k c) (debts_rcv si k c))
  have h2 : (bigSep Finset.univ fun j : Fin 3 =>
      (cred (tallyOn (rdyC j c) (launchCredit (Pipeline.owing O₀) 0 (rdyC j c))) : sProp 𝕄)) = crY c :=
    bigSep_congr fun j _ => congrArg cred (launch_at (rdyC j c) (debts_rdy j c))
  rw [h1, h2]
  iintro ⟨-, H1, H2⟩
  isplitl [H1] <;> iassumption

/-! ## The run -/

variable (ρ : Dev nD → PrngReg)

def dats (_ : Fin 1) (c : Dev nD) : Pipeline.Dat τ (Elt F) Unit ℕ UU ℕ cfg0 c where
  A w := w.elim0
  after w _ := w.elim0
  Φ t := match t with
    | ⟨0, _⟩ => before m c
    | ⟨_ + 1, _⟩ => after m c
  q _ := fullShare
  owed t := match t with
    | ⟨0, _⟩ => owe c 0
    | ⟨_ + 1, _⟩ => 0

theorem no_windows (Φ : Fin 0 → sProp (MT nD τ sig Unit (Elt F) ℕ UU ℕ)) : bigSep Finset.univ Φ = iprop(emp) := by
  rw [Finset.univ_eq_empty, bigSep_empty]; rfl

set_option maxRecDepth 8000 in
theorem body_obligation (c : Dev nD) : Pipeline.BodyObligation (dats (F := F) m 0 c) (defs₀ (F := F)) 𝒱₀ () Set.univ := fun t => by
  rw [show t = t0_0 from fin_N0 t]
  erw [no_windows]
  show iprop(before m c ∗ (dats m 0 c).owesAt () t0_0.castSucc ∗ emp) ⊢ wp frame (wpE (defs₀ (F := F)) 𝒱₀ c none) Set.univ
    (on cc0_body) (fun _ => iprop(after m c ∗ (dats m 0 c).owesAt () t0_0.succ ∗ emp))
  unfold Pipeline.Dat.owesAt Pipeline.owesWithin
  have hpre : iprop(before m c ∗ (∃ W : Waits sig Unit, ⌜(↑W : Set (SemLoc sig × Unit)) ⊆ (dats m 0 c).bound () t0_0.castSucc⌝ ∗ owes (c : Thread nD τ) (owe c 0) W) ∗ emp)
      ⊢ iprop(before m c ∗ ow c 0) := by
    iintro ⟨Hb, ⟨%W, -, Ho⟩, -⟩
    isplitl [Hb]; · iexact Hb
    unfold ow; iexists W; iexact Ho
  have hpost : iprop(after m c ∗ ow c 19)
      ⊢ iprop(after m c ∗ (∃ W : Waits sig Unit, ⌜(↑W : Set (SemLoc sig × Unit)) ⊆ (dats m 0 c).bound () t0_0.succ⌝ ∗ owes (c : Thread nD τ) 0 W) ∗ emp) := by
    rw [show (ow c 19 : sProp 𝕄) = iprop(∃ W, owes (c : Thread nD τ) 0 W) from by unfold ow; rw [owe_all]]
    iintro ⟨Ha, ⟨%W, Ho⟩⟩
    isplitl [Ha]; · iexact Ha
    isplitl [Ho]
    · iexists W
      isplitr; · ipureintro; exact fun _ _ => Or.inl trivial
      iexact Ho
    iempintro
  exact hpre.trans ((body_all m c).trans (wp_mono _ _ _ fun _ => hpost))

set_option maxRecDepth 8000 in
theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((dealt m c ∗ ubufs m c (V m c main_v1)) ∗ emp) := by
  rw [Pipeline.unscopedRestP_none, unscopedRest0_eq]
  unfold G' alone
  iintro ⟨Hu, #Hlev, Hcr, -, ⟨%K, #HK⟩, Ht, Hp, Hz⟩
  ihave Hc := (creds (F := F) c) $$ Hcr
  imodintro
  isplitl
  · isplitr [Hu]
    · unfold dealt
      isplitr
      · iexists K
        unfold recs recs'
        icases HK with ⟨#H1, #H2⟩
        isplitr; · iexact H1
        isplitr; · iexact H2
        iexact Hlev
      isplitl [Ht]; · iexact Ht
      isplitl [Hp]; · iexact Hp
      isplitl [Hc]; · iexact Hc
      iexact Hz
    · unfold ubufs; iexact Hu
  · iempintro

theorem inside (c : Dev nD) :
    iprop((dealt m c ∗ ubufs m c (V m c main_v1)) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scr
  iintro ⟨⟨H1, H2⟩, -, H3⟩
  isplitl [H1]; · iexact H1
  isplitl [H2]; · iexact H2
  iexact H3

theorem outside (c : Dev nD) :
    (dats m 0 c).Φ (Fin.last cfg0.N) ⊢ iprop((unscopedSems0 c ∗ ubufs m c (outW m c)) ∗ Pipeline.ownSems0 osem c ∗ Pipeline.scopedRest cfg0.spec c) := by
  rw [show (dats m 0 c).Φ (Fin.last cfg0.N) = after m c from rfl, scopedRest0_eq]
  unfold after zS zR zY
  iintro ⟨Hu, ⟨HS, HR, HY, HL⟩, Hs⟩
  ihave H := (Entails.of_eq (sems0_eq (F := F) c).symm) $$ [HS HR HY HL]
  · isplitl [HL]; · iexact HL
    iapply (Entails.of_eq (famG (fun g => (semVal g 0 : sProp 𝕄)) c).symm)
    isplitl [HS]; · iexact HS
    isplitl [HR]; · iexact HR
    iexact HY
  icases H with ⟨Ho, Hb⟩
  isplitl [Hb Hu]
  · isplitl [Hb] <;> iassumption
  isplitl [Ho]; · iexact Ho
  unfold scr; iexact Hs

/-- What is known of device `c` at the end. -/
def QY (c : Dev nD) (s : MemSt nD τ sig (Elt F)) : Prop :=
  (∀ sm : SemLoc sig, sm.isScoped .tc = false → s.sem ((c.tc : Thread nD τ), sm) = 0)
  ∧ s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_v1) = outW m c

theorem read_one (s' : Phys nD τ sig (Elt F)) (c : Dev nD) (b : Ref sig .tc) (f : b.ty.Contents (Elt F)) :
    iprop(pt c b f ∗ SI s') ⊢ (iprop(⌜s'.mem.mem ((c : Thread nD τ).loc b) = f⌝ ∗ SI s') : sProp 𝕄) := by
  iintro ⟨H, HSI⟩
  icombine HSI H gives %h
  isplitr
  · ipureintro; exact Buf.eq_of_forall_mem_univ h
  iexact HSI

theorem read_all (c : Dev nD) (s' : Phys nD τ sig (Elt F)) :
    iprop((unscopedSems0 c ∗ ubufs m c (outW m c)) ∗ emp ∗ SI s') ⊢ |={Set.univ}=> (iprop(⌜QY m c s'.mem⌝ ∗ SI s') : sProp 𝕄) := by
  unfold ubufs
  iintro ⟨⟨Hu, H0, H1, H2, H3⟩, -, HSI⟩
  ihave H := (read_one s' c main_arg0 _) $$ [H0 HSI]
  · isplitl [H0] <;> iassumption
  icases H with ⟨%h0, HSI⟩
  ihave H := (read_one s' c main_arg1 _) $$ [H1 HSI]
  · isplitl [H1] <;> iassumption
  icases H with ⟨%h1, HSI⟩
  ihave H := (read_one s' c main_arg2 _) $$ [H2 HSI]
  · isplitl [H2] <;> iassumption
  icases H with ⟨%h2, HSI⟩
  ihave H := (read_one s' c main_v1 _) $$ [H3 HSI]
  · isplitl [H3] <;> iassumption
  icases H with ⟨%h3, HSI⟩
  imod (Pipeline.unscopedSems0_read (X := unscopedSems0 c) (c := c) fupd_intro s') $$ [Hu HSI] with ⟨%h, HSI⟩
  · isplitl [Hu] <;> iassumption
  imodintro
  isplitr
  · ipureintro; exact ⟨h, h0, h1, h2, h3⟩
  iexact HSI

set_option maxRecDepth 8000 in
/-- From any memory with zero counters, every weakly fair execution of @main on the eight devices terminates; every final
state has the arguments unchanged, the result at `outW` and every counter at zero. -/
theorem run_main : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v1) = outW m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w s t => w.elim0)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund m) $$ HX with HG
      imodintro
      isplitl [HP] <;> iassumption)
    (hglob := glob m)
    (hA := fun _ w => w.elim0) (hpf := fun _ k => k.elim0)
    (X := fun c => iprop(dealt m c ∗ ubufs m c (V m c main_v1))) (Y := fun c => iprop(unscopedSems0 c ∗ ubufs m c (outW m c))) (Z := fun _ => iprop(emp))
    (hX := enter m ρ) (hin := inside m) (hout := outside m)
    (QY := QY m) (hY := read_all m)
    (hQ := fun _ h hs => ⟨fun c => (h c).2.2.2, sem_eq_zero hs fun c => (h c).2.2.1⟩)

end Cert.KernelIdeal.NormRun

end
-- ==== Proof.Value.lean ====
/-  The kernel's result as extended reals, and the reference's: the same function of the inputs.

    With exact arithmetic the narrowing and widening conversions do nothing, so every row of the result is
    the row's sum `y` of the two partial blocks and the residual, times the reciprocal root of its mean square
    plus the offset, times `γ`. The reference divides by the root instead; the radicand is positive, so the
    two agree on every extended real. -/
module

public import proofs.«01_k».proof.Proof.Prot
public import proofs.«01_k».proof.Proof.Geo
public import proofs.«01_k».proof.Proof.Gen.ReferenceIdeal.Run
public import Idealize.ShloMosaic.Lib.Pointwise.Tactic
public import Idealize.ShloMosaic.Lib.Pointwise.Reduce
public import Idealize.ShloMosaic.Lib.Pointwise.Reshape
public import Idealize.ShloMosaic.Lib.Layout

@[expose] public section

noncomputable section

namespace Cert.KernelIdeal.NormRun

open Cert.KernelIdeal.Gen
open Idealize.ShloMosaic Idealize.ShloMosaic.TcCoe

/-! ### One row, as a function of the row's sum -/

/-- The number of columns, as the programs write it. -/
abbrev colsE : EReal := Ideal.ofBits .f32 0x44000000#32
/-- The offset under the root, as the programs write it. -/
abbrev epsE : EReal := Ideal.ofBits .f32 0x358637BD#32

/-- The radicand of a row: the mean of its squares, plus the offset. -/
def radE (y : Fin 512 → EReal) : EReal := Ideal.div (∑ k, y k * y k) colsE + epsE

theorem epsE_pos : 0 < epsE := by
  simp [epsE, Ideal.ofBits, Ideal.ieee, -EReal.coe_mul]

theorem colsE_eq : colsE = ((512 : ℝ) : EReal) := by
  simp [colsE, Ideal.ofBits, Ideal.ieee, -EReal.coe_mul]; norm_num

theorem square_nonneg (x : EReal) : 0 ≤ x * x := by
  induction x with
  | bot => simp
  | top => simp
  | coe r => rw [← EReal.coe_mul]; exact_mod_cast mul_self_nonneg r

theorem radE_pos (y : Fin 512 → EReal) : 0 < radE y := by
  have hs : 0 ≤ ∑ k, y k * y k := Finset.sum_nonneg fun k _ => square_nonneg (y k)
  have hd : 0 ≤ Ideal.div (∑ k, y k * y k) colsE := by
    rw [colsE_eq, Ideal.div, if_neg (by exact_mod_cast (by norm_num : (512 : ℝ) ≠ 0)), ← EReal.coe_inv]
    exact mul_nonneg hs (by exact_mod_cast (by norm_num : (0 : ℝ) ≤ 512⁻¹))
  exact lt_of_lt_of_le epsE_pos (le_add_of_nonneg_left hd)

/-- Over a positive radicand, to multiply by the reciprocal root is to divide by the root. -/
theorem mul_rsqrt (y v : EReal) (hv : 0 < v) : y * Ideal.rsqrt v = Ideal.div y (Ideal.sqrt v) := by
  induction v with
  | bot => exact absurd hv (by simp)
  | top => simp [Ideal.div]
  | coe r =>
    have hr : 0 < r := by exact_mod_cast hv
    have hq : Real.sqrt r ≠ 0 := (Real.sqrt_pos.mpr hr).ne'
    rw [Ideal.rsqrt_coe, Ideal.sqrt_coe, if_neg hr.not_gt, if_neg hr.ne', if_neg hr.not_gt, Ideal.div,
      if_neg (by exact_mod_cast hq), EReal.coe_inv]

/-! ### The kernel's payload at an index -/

theorem pay_at (a : Vec Ideal S32x512 .f32) (b : Vec Ideal S32x512 .bf16) (g : Vec Ideal S1x512 .f32) (i : S32x512.Idx) :
    k0_pay11 (F := Ideal) a b g i
      = (a i + b i) * Ideal.rsqrt (radE fun k => a (ix2 (i 0) k) + b (ix2 (i 0) k)) * g (ix2 0 (i 1)) := by
  unfold k0_pay11 k0_pay10 radE
  pointwise

/-! ### The reference at an index -/

/-- Row `r` of the sum of the two partial blocks and the residual. -/
def rowE (X : Vec Ideal ⟨3, ![2, 512, 512]⟩ .f32) (R : Vec Ideal S512x512 .f32) (r : Fin 512) (k : Fin 512) : EReal :=
  X (ix3 0 r k) + X (ix3 1 r k) + R (ix2 r k)

/-- The result at row `r` and column `l`. -/
def resE (X : Vec Ideal ⟨3, ![2, 512, 512]⟩ .f32) (R : Vec Ideal S512x512 .f32) (G : Vec Ideal S512 .f32) (r l : Fin 512) : EReal :=
  rowE X R r l * Ideal.rsqrt (radE (rowE X R r)) * G (ix1 l)

section Reference

theorem refSum_at (X : Vec Ideal Cert.ReferenceIdeal.S2x512x512 .f32) (R : Vec Ideal Cert.ReferenceIdeal.S512x512 .f32)
    (i : Cert.ReferenceIdeal.S512x512.Idx) :
    addf (F := Ideal) (φ := .f32) (Host.reduceAdd X (constant Cert.ReferenceIdeal.S_ .f32 0x00000000#32) Cert.ReferenceIdeal.Gen.reducesTo_S2x512x512_S512x512_d0 Cert.ReferenceIdeal.Gen.h_S_) R i
      = rowE X R (i 0) (i 1) := by
  unfold rowE
  pointwise
  rw [Fin.sum_univ_two, show i = ix2 (i 0) (i 1) from funext fun b => by fin_cases b <;> rfl]

theorem refRow_at (Y : Vec Ideal Cert.ReferenceIdeal.S512x512 .f32) (G : Vec Ideal Cert.ReferenceIdeal.S512 .f32)
    (i : Cert.ReferenceIdeal.S512x512.Idx) :
    mulf (F := Ideal) (φ := .f32) (Host.divf Y (broadcastInDim Cert.ReferenceIdeal.S512x512 ![0, 1] Cert.ReferenceIdeal.Gen.bcast_S512x1_S512x512_0_1 (Host.sqrt (addf (Host.divf (broadcastInDim Cert.ReferenceIdeal.S512x1 ![0] Cert.ReferenceIdeal.Gen.bcast_S512_S512x1_0 (Host.reduceAdd (mulf Y Y) (constant Cert.ReferenceIdeal.S_ .f32 0x00000000#32) Cert.ReferenceIdeal.Gen.reducesTo_S512x512_S512_d1 Cert.ReferenceIdeal.Gen.h_S_)) (broadcastInDim Cert.ReferenceIdeal.S512x1 ![] Cert.ReferenceIdeal.Gen.bcast_S_S512x1 (constant Cert.ReferenceIdeal.S_ .f32 0x44000000#32))) (broadcastInDim Cert.ReferenceIdeal.S512x1 ![] Cert.ReferenceIdeal.Gen.bcast_S_S512x1 (constant Cert.ReferenceIdeal.S_ .f32 0x358637BD#32)))))) (broadcastInDim Cert.ReferenceIdeal.S512x512 ![0, 1] Cert.ReferenceIdeal.Gen.bcast_S1x512_S512x512_0_1 (broadcastInDim Cert.ReferenceIdeal.S1x512 ![1] Cert.ReferenceIdeal.Gen.bcast_S512_S1x512_1 G)) i
      = Ideal.div (Y i) (Ideal.sqrt (radE fun k => Y (ix2 (i 0) k))) * G (ix1 (i 1)) := by
  unfold radE
  pointwise

/-- The reference's result at an index. -/
theorem ref_at (X : Vec Ideal Cert.ReferenceIdeal.S2x512x512 .f32) (R : Vec Ideal Cert.ReferenceIdeal.S512x512 .f32)
    (G : Vec Ideal Cert.ReferenceIdeal.S512 .f32) (i : Cert.ReferenceIdeal.S512x512.Idx) :
    mulf (F := Ideal) (φ := .f32) (Host.divf (addf (F := Ideal) (φ := .f32) (Host.reduceAdd X (constant Cert.ReferenceIdeal.S_ .f32 0x00000000#32) Cert.ReferenceIdeal.Gen.reducesTo_S2x512x512_S512x512_d0 Cert.ReferenceIdeal.Gen.h_S_) R) (broadcastInDim Cert.ReferenceIdeal.S512x512 ![0, 1] Cert.ReferenceIdeal.Gen.bcast_S512x1_S512x512_0_1 (Host.sqrt (addf (Host.divf (broadcastInDim Cert.ReferenceIdeal.S512x1 ![0] Cert.ReferenceIdeal.Gen.bcast_S512_S512x1_0 (Host.reduceAdd (mulf (addf (F := Ideal) (φ := .f32) (Host.reduceAdd X (constant Cert.ReferenceIdeal.S_ .f32 0x00000000#32) Cert.ReferenceIdeal.Gen.reducesTo_S2x512x512_S512x512_d0 Cert.ReferenceIdeal.Gen.h_S_) R) (addf (F := Ideal) (φ := .f32) (Host.reduceAdd X (constant Cert.ReferenceIdeal.S_ .f32 0x00000000#32) Cert.ReferenceIdeal.Gen.reducesTo_S2x512x512_S512x512_d0 Cert.ReferenceIdeal.Gen.h_S_) R)) (constant Cert.ReferenceIdeal.S_ .f32 0x00000000#32) Cert.ReferenceIdeal.Gen.reducesTo_S512x512_S512_d1 Cert.ReferenceIdeal.Gen.h_S_)) (broadcastInDim Cert.ReferenceIdeal.S512x1 ![] Cert.ReferenceIdeal.Gen.bcast_S_S512x1 (constant Cert.ReferenceIdeal.S_ .f32 0x44000000#32))) (broadcastInDim Cert.ReferenceIdeal.S512x1 ![] Cert.ReferenceIdeal.Gen.bcast_S_S512x1 (constant Cert.ReferenceIdeal.S_ .f32 0x358637BD#32)))))) (broadcastInDim Cert.ReferenceIdeal.S512x512 ![0, 1] Cert.ReferenceIdeal.Gen.bcast_S1x512_S512x512_0_1 (broadcastInDim Cert.ReferenceIdeal.S1x512 ![1] Cert.ReferenceIdeal.Gen.bcast_S512_S1x512_1 G)) i
      = resE X R G (i 0) (i 1) := by
  refine (refRow_at _ G i).trans ?_
  unfold resE
  rw [mul_rsqrt _ _ (radE_pos _)]
  refine congrArg₂ (· * ·) (congrArg₂ Ideal.div (refSum_at X R i) (congrArg (fun y => Ideal.sqrt (radE y)) (funext fun k => ?_))) rfl
  exact refSum_at X R (ix2 (i 0) k)

end Reference

/-! ### The kernel's contents -/

section Kernel
variable (m : (ℓ : Loc nD τ sig) → Buf (Elt Ideal) ℓ)
  (X : Vec Ideal ⟨3, ![2, 512, 512]⟩ .f32) (R : Vec Ideal S512x512 .f32) (G : Vec Ideal S512 .f32)

/-- Every device holds its block of the partial sums, and all of the residual and of `γ`. -/
structure Holds : Prop where
  part : ∀ c : Dev nD, m ((c.tc : Thread nD τ).loc main_arg0) = Layout.blockN ⟨3, ![1, 512, 512]⟩ ⟨3, ![2, 512, 512]⟩ (Layout.meshBlock [2, 2, 2] ![[2], [], []] c) X
  resid : ∀ c : Dev nD, m ((c.tc : Thread nD τ).loc main_arg1) = R
  scale : ∀ c : Dev nD, m ((c.tc : Thread nD τ).loc main_arg2) = G

/-- The device's coordinate on the axis the partial sums are cut along. -/
def zb (c : Dev nD) : Fin 2 := ⟨c.val % 2, Nat.mod_lt _ (by decide)⟩
theorem zb_pz (c : Dev nD) : zb (pz c) = 1 - zb c := by revert c; decide +kernel

variable {m X R G} (h : Holds m X R G)
include h

theorem part_at (c : Dev nD) (r k : Fin 512) :
    (V m c main_arg0 : S1x512x512.Idx → Elt Ideal .f32) (ix3 (⟨0, Nat.one_pos⟩ : Fin 1) r k) = X (ix3 (zb c) r k) := by
  refine (congrFun (h.part c) _).trans (congrArg X (funext fun b => Fin.ext ?_))
  refine (Layout.TilesN.idx_val _ _ _ b).trans ?_
  fin_cases b
  · show (c.val / 1 % 2 * 1 + 0) * 1 + 0 = c.val % 2
    omega
  · show 0 * 512 + r.val = r.val; omega
  · show 0 * 512 + k.val = k.val; omega

/-- The two partial blocks, the own one first. -/
theorem parts_comm (c : Dev nD) (r k : Fin 512) :
    X (ix3 (zb c) r k) + X (ix3 (zb (pz c)) r k) = X (ix3 0 r k) + X (ix3 1 r k) := by
  rw [zb_pz]
  generalize zb c = z
  fin_cases z
  · rfl
  · exact add_comm _ _

/-- Row `i 0` of a quadrant is row `128 q + i 0` of the whole. -/
def rowOf (q : ℕ) (hq : q < 4) (r : Fin 128) : Fin 512 := ⟨128 * q + r.val, by omega⟩

theorem sum_at (c : Dev nD) (r : Fin 128) (k : Fin 512) :
    acW m c (ix2 r k) + cmW m c (ix2 r k) = rowE X R (rowOf (quad c) (quad_lt c) r) k := by
  have hp : pmW m c (ix2 r k) = X (ix3 (zb c) (rowOf (quad c) (quad_lt c) r) k) := part_at h c _ k
  have hc : cmW m c (ix2 r k) = X (ix3 (zb (pz c)) (rowOf (quad c) (quad_lt c) r) k) := by
    refine (part_at h (pz c) _ k).trans (congrArg (fun r' => X (ix3 (zb (pz c)) r' k)) (Fin.ext ?_))
    show 128 * (3 - quad (pz c)) + r.val = 128 * quad c + r.val
    have := quad_lt c
    rw [quad_pz]; omega
  have hr : rqW m c (ix2 r k) = R (ix2 (rowOf (quad c) (quad_lt c) r) k) := congrFun (h.resid c) _
  show (pmW m c (ix2 r k) + rqW m c (ix2 r k) : EReal) + cmW m c (ix2 r k) = _
  rw [hp, hc, hr, add_right_comm, parts_comm h]
  rfl

omit h in
theorem chk_row (i : S128x512.Idx) (k : Fin 512) : (chk (ckOf i)).emb (ix2 ((inCk i) 0) k) = ix2 (i 0) k := by
  funext b
  refine Fin.ext ?_
  fin_cases b
  · show 32 * ((i 0).val / 32) + 1 * ((i 0).val % 32) = (i 0).val; omega
  · show 0 + 1 * k.val = k.val; omega

/-- The normalised rows a device computes are the whole result's rows of its quadrant. -/
theorem norm_at (c : Dev nD) (r : Fin 128) (l : Fin 512) :
    nfW m c (ix2 r l) = resE X R G (rowOf (quad c) (quad_lt c) r) l := by
  have hrow (k : Fin 512) : (ckRead (acW m c) (ckOf (ix2 r l)) (ix2 ((inCk (ix2 r l)) 0) k) : EReal)
      + ckRead (cmW m c) (ckOf (ix2 r l)) (ix2 ((inCk (ix2 r l)) 0) k) = rowE X R (rowOf (quad c) (quad_lt c) r) k := by
    unfold ckRead
    rw [chk_row]
    exact sum_at h c r k
  unfold nfW
  rw [pay_at]
  unfold resE
  refine congrArg₂ (· * ·) (congrArg₂ (· * ·) (hrow l) (congrArg (fun y => Ideal.rsqrt (radE y)) (funext hrow))) ?_
  exact congrFun (h.scale c) _

/-- Every device ends with the whole result. -/
theorem out_at (c : Dev nD) (i : S512x512.Idx) : outW m c i = resE X R G (i 0) (i 1) := by
  have hi : (i 0).val < 512 := (i 0).isLt
  have key (d : Dev nD) (hd : (i 0).val / 128 = quad d) :
      nfW m d (ix2 (⟨(i 0).val % 128, Nat.mod_lt _ (by decide)⟩ : Fin 128) (i 1)) = resE X R G (i 0) (i 1) := by
    refine (norm_at h d _ _).trans (congrArg (fun r => resE X R G r (i 1)) (Fin.ext ?_))
    show 128 * quad d + (i 0).val % 128 = (i 0).val
    omega
  have hq := quad_lt c
  have hz := quad_pz c
  have hx := quad_px_ne c
  have hy := quad_py_ne c
  have hx' := quad_lt (px c)
  have hy' := quad_lt (py c)
  unfold outW
  split_ifs with h1 h2 h3
  · exact key c h1
  · exact key (pz c) (h2.trans hz.symm)
  · exact key (px c) h3
  · exact key (py c) (by omega)

end Kernel

end Cert.KernelIdeal.NormRun

end
-- ==== Proof.lean ====
/-
    `Proof/Launch.lean` proves what every execution of the kernel leaves, for any float values; the frames are
    read off it at the machine's floats and at the extended reals. `Proof/Value.lean` proves the result, over
    the extended reals, to be the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.KernelIdeal.NormRun

/-- The kernel over the machine's floats: it runs, its arguments stay, its counters end at zero. -/
theorem frame_kernel : Cert.quiescent_Kernel := fun m ρ _ =>
  (θ_run Cert.KernelIdeal.defs _ _).mono
    (fun _ h => ⟨fun c => ⟨(h.1 c).1, (h.1 c).2.1, (h.1 c).2.2.1⟩, h.2⟩) (run_main (F := Bits) m ρ)

/-- The same over the extended reals. -/
theorem frame_ideal : Cert.quiescent_KernelIdeal := fun m ρ _ =>
  (θ_run Cert.KernelIdeal.defs _ _).mono
    (fun _ h => ⟨fun c => ⟨(h.1 c).1, (h.1 c).2.1, (h.1 c).2.2.1⟩, h.2⟩) (run_main (F := Ideal) m ρ)

/-- The reference runs, its arguments stay, and it has no counters. -/
theorem frame_reference : Cert.quiescent_ReferenceIdeal := fun m ρ _ =>
  (θ_run Cert.ReferenceIdeal.defs _ _).mono
    (fun r h => ⟨fun c => ⟨(h c).2.1, (h c).2.2.1, (h c).2.2.2⟩, sem_eq_zero_of_no_sems (by decide) r.2⟩)
    (Cert.ReferenceIdeal.Value.run (F := Ideal) m ρ)

/-- Every device's result is the reference's. -/
theorem algebraic : Cert.algebraic_KernelIdeal_ReferenceIdeal := by
  intro m g m' g' _ hm
  have hh : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hm c).1, fun c => (hm c).2.1, fun c => (hm c).2.2⟩
  refine ⟨fun i => resE (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (i 0) (i 1), ?_, ?_⟩
  · exact (θ_run Cert.KernelIdeal.defs _ _).mono
      (fun r h c => ⟨(h.1 c).2.2.2.trans (funext (out_at hh c)), (h.1 c).1, (h.1 c).2.1, (h.1 c).2.2.1⟩) (run_main (F := Ideal) m g)
  · exact (θ_run Cert.ReferenceIdeal.defs _ _).mono
      (fun r h => ⟨(h 0).1.trans (funext fun i => ref_at _ _ _ i), (h 0).2.1, (h 0).2.2.1, (h 0).2.2.2⟩)
      (Cert.ReferenceIdeal.Value.run (F := Ideal) m' g')

theorem claim : Cert.Claim :=
  ⟨Cert.Kernel.Gen.facts, Cert.KernelIdeal.Gen.facts, Cert.ReferenceIdeal.Gen.facts,
    frame_kernel, frame_ideal, frame_reference, trivial, algebraic⟩

end Cert.Proof

end
